-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16384x256 : Shape := ⟨2, ![16384, 256]⟩
abbrev S16384x16 : Shape := ⟨2, ![16384, 16]⟩
abbrev S1024x256 : Shape := ⟨2, ![1024, 256]⟩
abbrev S1024 : Shape := ⟨1, ![1024]⟩
abbrev S1024x1040 : Shape := ⟨2, ![1024, 1040]⟩
abbrev S383x1024 : Shape := ⟨2, ![383, 1024]⟩
abbrev S383 : Shape := ⟨1, ![383]⟩
abbrev S1x1024 : Shape := ⟨2, ![1, 1024]⟩
abbrev S1 : Shape := ⟨1, ![1]⟩
abbrev S_ : Shape := ⟨0, ![]⟩
abbrev S256x1024 : Shape := ⟨2, ![256, 1024]⟩
abbrev S256 : Shape := ⟨1, ![256]⟩

class Facts : Prop where
  bcast_S_S1024 : S_.BroadcastsInDim S1024 (![] : Fin 0 → Fin S1024.rank)
  bcast_S_S16384x256 : S_.BroadcastsInDim S16384x256 (![] : Fin 0 → Fin S16384x256.rank)
  bcast_S_S16384x16 : S_.BroadcastsInDim S16384x16 (![] : Fin 0 → Fin S16384x16.rank)
  bcast_S_S1024x256 : S_.BroadcastsInDim S1024x256 (![] : Fin 0 → Fin S1024x256.rank)
  bcast_S_S1024x1040 : S_.BroadcastsInDim S1024x1040 (![] : Fin 0 → Fin S1024x1040.rank)
  slices_S383x1024_S256x1024_0_0 : S383x1024.Slices ![0, 0] S256x1024
  bcast_S_S256x1024 : S_.BroadcastsInDim S256x1024 (![] : Fin 0 → Fin S256x1024.rank)
  slices_S383_S256_0 : S383.Slices ![0] S256
  bcast_S_S256 : S_.BroadcastsInDim S256 (![] : Fin 0 → Fin S256.rank)

variable [Facts]

def fn_part1 {F : FTy → Type} [FloatOps F] (main_arg3 : FVec F S1024 .f32) (main_arg6 : FVec F S1024x1040 .f32) (main_arg7 : FVec F S1024 .f32) (main_arg10 : FVec F S383x1024 .f32) (main_arg11 : FVec F S383 .f32) (main_v1 : IVec S1024 1) (main_v3 : IVec S1024 1) (main_v5 : IVec S1024 1) (main_v7 : IVec S1024 1) (main_v10 : IVec S16384x256 1) (main_v13 : IVec S16384x16 1) (main_v16 : IVec S1024x256 1) : IVec S1024 1 × IVec S1024 1 × IVec S1024 1 × IVec S1024 1 × IVec S16384x256 1 × IVec S16384x16 1 × IVec S1024x256 1 × IVec S1024 1 × IVec S1024x1040 1 × IVec S1024 1 × IVec S256x1024 1 × IVec S256 1 :=
  let main_v17 : FVec F S1024 .f32 := Host.absf main_arg3
  let main_cst_6 : FVec F S_ .f32 := constant S_ .f32 0x7F800000#32
  let main_v18 : FVec F S1024 .f32 := broadcastInDim S1024 ![] bcast_S_S1024 main_cst_6
  let main_v19 : IVec S1024 1 := cmpf .olt main_v17 main_v18
  let main_v20 : FVec F S1024x1040 .f32 := Host.absf main_arg6
  let main_cst_7 : FVec F S_ .f32 := constant S_ .f32 0x7F800000#32
  let main_v21 : FVec F S1024x1040 .f32 := broadcastInDim S1024x1040 ![] bcast_S_S1024x1040 main_cst_7
  let main_v22 : IVec S1024x1040 1 := cmpf .olt main_v20 main_v21
  let main_v23 : FVec F S1024 .f32 := Host.absf main_arg7
  let main_cst_8 : FVec F S_ .f32 := constant S_ .f32 0x7F800000#32
  let main_v24 : FVec F S1024 .f32 := broadcastInDim S1024 ![] bcast_S_S1024 main_cst_8
  let main_v25 : IVec S1024 1 := cmpf .olt main_v23 main_v24
  let main_v26 : FVec F S256x1024 .f32 := (extractStridedSlice S256x1024 ![0, 0] · slices_S383x1024_S256x1024_0_0) main_arg10
  let main_v27 : FVec F S256x1024 .f32 := Host.absf main_v26
  let main_cst_9 : FVec F S_ .f32 := constant S_ .f32 0x7F800000#32
  let main_v28 : FVec F S256x1024 .f32 := broadcastInDim S256x1024 ![] bcast_S_S256x1024 main_cst_9
  let main_v29 : IVec S256x1024 1 := cmpf .olt main_v27 main_v28
  let main_v30 : FVec F S256 .f32 := (extractStridedSlice S256 ![0] · slices_S383_S256_0) main_arg11
  let main_v31 : FVec F S256 .f32 := Host.absf main_v30
  let main_cst_10 : FVec F S_ .f32 := constant S_ .f32 0x7F800000#32
  let main_v32 : FVec F S256 .f32 := broadcastInDim S256 ![] bcast_S_S256 main_cst_10
  let main_v33 : IVec S256 1 := cmpf .olt main_v31 main_v32
  (main_v1, main_v3, main_v5, main_v7, main_v10, main_v13, main_v16, main_v19, main_v22, main_v25, main_v29, main_v33)

def fn {F : FTy → Type} [FloatOps F] (main_arg0 : FVec F S16384x256 .f32) (main_arg1 : FVec F S16384x16 .f32) (main_arg2 : FVec F S1024x256 .f32) (main_arg3 : FVec F S1024 .f32) (main_arg4 : FVec F S1024 .f32) (main_arg5 : FVec F S1024 .f32) (main_arg6 : FVec F S1024x1040 .f32) (main_arg7 : FVec F S1024 .f32) (main_arg8 : FVec F S1024 .f32) (main_arg9 : FVec F S1024 .f32) (main_arg10 : FVec F S383x1024 .f32) (main_arg11 : FVec F S383 .f32) (main_arg12 : FVec F S1x1024 .f32) (main_arg13 : FVec F S1 .f32) (main_arg14 : FVec F S1x1024 .f32) (main_arg15 : FVec F S1 .f32) : IVec S1024 1 × IVec S1024 1 × IVec S1024 1 × IVec S1024 1 × IVec S16384x256 1 × IVec S16384x16 1 × IVec S1024x256 1 × IVec S1024 1 × IVec S1024x1040 1 × IVec S1024 1 × IVec S256x1024 1 × IVec S256 1 :=
  let main_cst : FVec F S_ .f32 := constant S_ .f32 0x3F800000#32
  let main_v0 : FVec F S1024 .f32 := broadcastInDim S1024 ![] bcast_S_S1024 main_cst
  let main_v1 : IVec S1024 1 := cmpf .oeq main_arg4 main_v0
  let main_cst_0 : FVec F S_ .f32 := constant S_ .f32 0x00000000#32
  let main_v2 : FVec F S1024 .f32 := broadcastInDim S1024 ![] bcast_S_S1024 main_cst_0
  let main_v3 : IVec S1024 1 := cmpf .oeq main_arg5 main_v2
  let main_cst_1 : FVec F S_ .f32 := constant S_ .f32 0x3F800000#32
  let main_v4 : FVec F S1024 .f32 := broadcastInDim S1024 ![] bcast_S_S1024 main_cst_1
  let main_v5 : IVec S1024 1 := cmpf .oeq main_arg8 main_v4
  let main_cst_2 : FVec F S_ .f32 := constant S_ .f32 0x00000000#32
  let main_v6 : FVec F S1024 .f32 := broadcastInDim S1024 ![] bcast_S_S1024 main_cst_2
  let main_v7 : IVec S1024 1 := cmpf .oeq main_arg9 main_v6
  let main_v8 : FVec F S16384x256 .f32 := Host.absf main_arg0
  let main_cst_3 : FVec F S_ .f32 := constant S_ .f32 0x7F800000#32
  let main_v9 : FVec F S16384x256 .f32 := broadcastInDim S16384x256 ![] bcast_S_S16384x256 main_cst_3
  let main_v10 : IVec S16384x256 1 := cmpf .olt main_v8 main_v9
  let main_v11 : FVec F S16384x16 .f32 := Host.absf main_arg1
  let main_cst_4 : FVec F S_ .f32 := constant S_ .f32 0x7F800000#32
  let main_v12 : FVec F S16384x16 .f32 := broadcastInDim S16384x16 ![] bcast_S_S16384x16 main_cst_4
  let main_v13 : IVec S16384x16 1 := cmpf .olt main_v11 main_v12
  let main_v14 : FVec F S1024x256 .f32 := Host.absf main_arg2
  let main_cst_5 : FVec F S_ .f32 := constant S_ .f32 0x7F800000#32
  let main_v15 : FVec F S1024x256 .f32 := broadcastInDim S1024x256 ![] bcast_S_S1024x256 main_cst_5
  let main_v16 : IVec S1024x256 1 := cmpf .olt main_v14 main_v15
  fn_part1 (F := F) main_arg3 main_arg6 main_arg7 main_arg10 main_arg11 main_v1 main_v3 main_v5 main_v7 main_v10 main_v13 main_v16
-- ==== Kernel.lean ====
abbrev S16384x256 : Shape := ⟨2, ![16384, 256]⟩
abbrev S16384x16 : Shape := ⟨2, ![16384, 16]⟩
abbrev S1024x256 : Shape := ⟨2, ![1024, 256]⟩
abbrev S1024 : Shape := ⟨1, ![1024]⟩
abbrev S1024x1040 : Shape := ⟨2, ![1024, 1040]⟩
abbrev S383x1024 : Shape := ⟨2, ![383, 1024]⟩
abbrev S383 : Shape := ⟨1, ![383]⟩
abbrev S1x1024 : Shape := ⟨2, ![1, 1024]⟩
abbrev S1 : Shape := ⟨1, ![1]⟩
abbrev S256x1024 : Shape := ⟨2, ![256, 1024]⟩
abbrev S1024x1024 : Shape := ⟨2, ![1024, 1024]⟩
abbrev S1024x16 : Shape := ⟨2, ![1024, 16]⟩
abbrev S16x1024 : Shape := ⟨2, ![16, 1024]⟩
abbrev S_ : Shape := ⟨0, ![]⟩
abbrev S128x1024 : Shape := ⟨2, ![128, 1024]⟩
abbrev S1152x1024 : Shape := ⟨2, ![1152, 1024]⟩
abbrev S16384x128 : Shape := ⟨2, ![16384, 128]⟩
abbrev S1024x383 : Shape := ⟨2, ![1024, 383]⟩
abbrev S1024x1 : Shape := ⟨2, ![1024, 1]⟩
abbrev S1024x128 : Shape := ⟨2, ![1024, 128]⟩
abbrev S1024x640 : Shape := ⟨2, ![1024, 640]⟩
abbrev S128 : Shape := ⟨1, ![128]⟩
abbrev S640 : Shape := ⟨1, ![640]⟩
abbrev S1x640 : Shape := ⟨2, ![1, 640]⟩
abbrev S2048x256 : Shape := ⟨2, ![2048, 256]⟩
abbrev S2048x128 : Shape := ⟨2, ![2048, 128]⟩
abbrev S256x128 : Shape := ⟨2, ![256, 128]⟩
abbrev S128x256 : Shape := ⟨2, ![128, 256]⟩
abbrev S256x256 : Shape := ⟨2, ![256, 256]⟩
abbrev S256x1152 : Shape := ⟨2, ![256, 1152]⟩
abbrev S256x640 : Shape := ⟨2, ![256, 640]⟩
abbrev S256x128x1 : Shape := ⟨3, ![256, 128, 1]⟩

abbrev nBuf : Space → Nat
  | .hbm => 52
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S16384x16, .f32⟩
  | .hbm, ⟨2, _⟩ => ⟨S1024x256, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1040, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S383x1024, .f32⟩
  | .hbm, ⟨11, _⟩ => ⟨S383, .f32⟩
  | .hbm, ⟨12, _⟩ => ⟨S1x1024, .f32⟩
  | .hbm, ⟨13, _⟩ => ⟨S1, .f32⟩
  | .hbm, ⟨14, _⟩ => ⟨S1x1024, .f32⟩
  | .hbm, ⟨15, _⟩ => ⟨S1, .f32⟩
  | .hbm, ⟨16, _⟩ => ⟨S256x1024, .f32⟩
  | .hbm, ⟨17, _⟩ => ⟨S256x1024, .bf16⟩
  | .hbm, ⟨18, _⟩ => ⟨S1024x1024, .f32⟩
  | .hbm, ⟨19, _⟩ => ⟨S1024x1024, .f32⟩
  | .hbm, ⟨20, _⟩ => ⟨S1024x16, .f32⟩
  | .hbm, ⟨21, _⟩ => ⟨S16x1024, .f32⟩
  | .hbm, ⟨22, _⟩ => ⟨S_, .i32⟩
  | .hbm, ⟨23, _⟩ => ⟨S_, .f32⟩
  | .hbm, ⟨24, _⟩ => ⟨S128x1024, .f32⟩
  | .hbm, ⟨25, _⟩ => ⟨S1152x1024, .f32⟩
  | .hbm, ⟨26, _⟩ => ⟨S1152x1024, .bf16⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S16384x128, .bf16⟩
  | .hbm, ⟨31, _⟩ => ⟨S1024x383, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x128, .f32⟩
  | .hbm, ⟨36, _⟩ => ⟨S1024x1, .f32⟩
  | .hbm, ⟨37, _⟩ => ⟨S1024x128, .f32⟩
  | .hbm, ⟨38, _⟩ => ⟨S1024x640, .f32⟩
  | .hbm, ⟨39, _⟩ => ⟨S1024x640, .bf16⟩
  | .hbm, ⟨40, _⟩ => ⟨S_, .f32⟩
  | .hbm, ⟨41, _⟩ => ⟨S1, .f32⟩
  | .hbm, ⟨42, _⟩ => ⟨S128, .f32⟩
  | .hbm, ⟨43, _⟩ => ⟨S128, .f32⟩
  | .hbm, ⟨44, _⟩ => ⟨S640, .f32⟩
  | .hbm, ⟨45, _⟩ => ⟨S1x640, .f32⟩
  | .hbm, ⟨46, _⟩ => ⟨S1x1024, .f32⟩
  | .hbm, ⟨47, _⟩ => ⟨S1x1024, .bf16⟩
  | .hbm, ⟨48, _⟩ => ⟨S1x1024, .f32⟩
  | .hbm, ⟨49, _⟩ => ⟨S1x1024, .bf16⟩
  | .hbm, ⟨50, _⟩ => ⟨S16384x256, .bf16⟩
  | .hbm, ⟨51, _⟩ => ⟨S16384x128, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S256x1024, .bf16⟩
  | .local _ .vmem, ⟨5, _⟩ => ⟨S1x1024, .bf16⟩
  | .local _ .vmem, ⟨6, _⟩ => ⟨S1152x1024, .bf16⟩
  | .local _ .vmem, ⟨7, _⟩ => ⟨S1x1024, .bf16⟩
  | .local _ .vmem, ⟨8, _⟩ => ⟨S1024x640, .bf16⟩
  | .local _ .vmem, ⟨9, _⟩ => ⟨S1x640, .f32⟩
  | .local _ .vmem, ⟨10, _⟩ => ⟨S2048x128, .f32⟩
  | .local _ .vmem, ⟨11, _⟩ => ⟨S2048x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x256 : Shape := ⟨2, ![16384, 256]⟩
abbrev S16384x16 : Shape := ⟨2, ![16384, 16]⟩
abbrev S1024x256 : Shape := ⟨2, ![1024, 256]⟩
abbrev S1024 : Shape := ⟨1, ![1024]⟩
abbrev S1024x1040 : Shape := ⟨2, ![1024, 1040]⟩
abbrev S383x1024 : Shape := ⟨2, ![383, 1024]⟩
abbrev S383 : Shape := ⟨1, ![383]⟩
abbrev S1x1024 : Shape := ⟨2, ![1, 1024]⟩
abbrev S1 : Shape := ⟨1, ![1]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S16384x1040 : Shape := ⟨2, ![16384, 1040]⟩
abbrev S1040x1024 : Shape := ⟨2, ![1040, 1024]⟩
abbrev S1024x383 : Shape := ⟨2, ![1024, 383]⟩
abbrev S16384x383 : Shape := ⟨2, ![16384, 383]⟩
abbrev S1x383 : Shape := ⟨2, ![1, 383]⟩
abbrev S1024x1 : Shape := ⟨2, ![1024, 1]⟩
abbrev S1x1 : Shape := ⟨2, ![1, 1]⟩
abbrev S16384x128 : Shape := ⟨2, ![16384, 128]⟩
abbrev S16384x127 : Shape := ⟨2, ![16384, 127]⟩
abbrev S16384x129 : Shape := ⟨2, ![16384, 129]⟩
abbrev S128 : Shape := ⟨1, ![128]⟩
abbrev S1x128x1 : Shape := ⟨3, ![1, 128, 1]⟩
abbrev S16384x1x129 : Shape := ⟨3, ![16384, 1, 129]⟩
abbrev S16384x128x129 : Shape := ⟨3, ![16384, 128, 129]⟩
abbrev S16384x128x1 : Shape := ⟨3, ![16384, 128, 1]⟩
abbrev S1x1x1 : Shape := ⟨3, ![1, 1, 1]⟩
abbrev S1x128 : Shape := ⟨2, ![1, 128]⟩

abbrev nBuf : Space → Nat
  | .hbm => 391
  | .vmem => 0
  | .smem => 0
  | _ => 0

abbrev hbmTy0_0 (i : Nat) : BufTy := match i % 128 with
  | 0 => ⟨S16384x256, .f32⟩
  | 1 => ⟨S16384x16, .f32⟩
  | 2 => ⟨S1024x256, .f32⟩
  | 3 => ⟨S1024, .f32⟩
  | 4 => ⟨S1024, .f32⟩
  | 5 => ⟨S1024, .f32⟩
  | 6 => ⟨S1024x1040, .f32⟩
  | 7 => ⟨S1024, .f32⟩
  | 8 => ⟨S1024, .f32⟩
  | 9 => ⟨S1024, .f32⟩
  | 10 => ⟨S383x1024, .f32⟩
  | 11 => ⟨S383, .f32⟩
  | 12 => ⟨S1x1024, .f32⟩
  | 13 => ⟨S1, .f32⟩
  | 14 => ⟨S1x1024, .f32⟩
  | 15 => ⟨S1, .f32⟩
  | 16 => ⟨S256x1024, .f32⟩
  | 17 => ⟨S16384x1024, .f32⟩
  | 18 => ⟨S1x1024, .f32⟩
  | 19 => ⟨S16384x1024, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S16384x1024, .f32⟩
  | 28 => ⟨S16384x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S16384x1024, .f32⟩
  | 37 => ⟨S16384x1024, .f32⟩
  | 38 => ⟨S_, .f32⟩
  | 39 => ⟨S16384x1, .f32⟩
  | 40 => ⟨S16384x1, .f32⟩
  | 41 => ⟨S16384x1, .f32⟩
  | 42 => ⟨S16384x1024, .f32⟩
  | 43 => ⟨S16384x1024, .f32⟩
  | 44 => ⟨S1x1024, .f32⟩
  | 45 => ⟨S16384x1024, .f32⟩
  | 46 => ⟨S16384x1024, .f32⟩
  | 47 => ⟨S1x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S16384x1040, .f32⟩
  | 54 => ⟨S1040x1024, .f32⟩
  | 55 => ⟨S16384x1024, .f32⟩
  | 56 => ⟨S1x1024, .f32⟩
  | 57 => ⟨S16384x1024, .f32⟩
  | 58 => ⟨S16384x1024, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S16384x1024, .f32⟩
  | 66 => ⟨S16384x1024, .f32⟩
  | 67 => ⟨S16384x1024, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S16384x1024, .f32⟩
  | 75 => ⟨S16384x1024, .f32⟩
  | 76 => ⟨S_, .f32⟩
  | 77 => ⟨S16384x1, .f32⟩
  | 78 => ⟨S16384x1, .f32⟩
  | 79 => ⟨S16384x1, .f32⟩
  | 80 => ⟨S16384x1024, .f32⟩
  | 81 => ⟨S16384x1024, .f32⟩
  | 82 => ⟨S1x1024, .f32⟩
  | 83 => ⟨S16384x1024, .f32⟩
  | 84 => ⟨S16384x1024, .f32⟩
  | 85 => ⟨S1x1024, .f32⟩
  | 86 => ⟨S16384x1024, .f32⟩
  | 87 => ⟨S16384x1024, .f32⟩
  | 88 => ⟨S_, .f32⟩
  | 89 => ⟨S16384x1024, .f32⟩
  | 90 => ⟨S16384x1024, .f32⟩
  | 91 => ⟨S1024x383, .f32⟩
  | 92 => ⟨S16384x383, .f32⟩
  | 93 => ⟨S1x383, .f32⟩
  | 94 => ⟨S16384x383, .f32⟩
  | 95 => ⟨S16384x383, .f32⟩
  | 96 => ⟨S1024x1, .f32⟩
  | 97 => ⟨S16384x1, .f32⟩
  | 98 => ⟨S1x1, .f32⟩
  | 99 => ⟨S16384x1, .f32⟩
  | 100 => ⟨S16384x1, .f32⟩
  | 101 => ⟨S16384x1, .f32⟩
  | 102 => ⟨S1024x1, .f32⟩
  | 103 => ⟨S16384x1, .f32⟩
  | 104 => ⟨S1x1, .f32⟩
  | 105 => ⟨S16384x1, .f32⟩
  | 106 => ⟨S16384x1, .f32⟩
  | 107 => ⟨S16384x128, .f32⟩
  | 108 => ⟨S16384x128, .f32⟩
  | 109 => ⟨S16384x127, .f32⟩
  | 110 => ⟨S_, .f32⟩
  | 111 => ⟨S16384, .f32⟩
  | 112 => ⟨S_, .f32⟩
  | 113 => ⟨S16384, .f32⟩
  | 114 => ⟨S16384, .f32⟩
  | 115 => ⟨S16384x1, .f32⟩
  | 116 => ⟨S16384x128, .f32⟩
  | 117 => ⟨S16384x128, .f32⟩
  | 118 => ⟨S16384x128, .f32⟩
  | 119 => ⟨S_, .f32⟩
  | 120 => ⟨S16384, .f32⟩
  | 121 => ⟨S16384x1, .f32⟩
  | 122 => ⟨S16384x128, .f32⟩
  | 123 => ⟨S16384x128, .f32⟩
  | 124 => ⟨S_, .f32⟩
  | 125 => ⟨S16384x128, .f32⟩
  | 126 => ⟨S16384x128, .f32⟩
  | 127 => ⟨S_, .f32⟩
  | _ => ⟨S16384x256, .f32⟩

abbrev hbmTy0_1 (i : Nat) : BufTy := match i % 128 with
  | 0 => ⟨S16384x128, .f32⟩
  | 1 => ⟨S16384x128, .f32⟩
  | 2 => ⟨S_, .f32⟩
  | 3 => ⟨S16384, .f32⟩
  | 4 => ⟨S_, .f32⟩
  | 5 => ⟨S16384, .f32⟩
  | 6 => ⟨S16384, .f32⟩
  | 7 => ⟨S16384x1, .f32⟩
  | 8 => ⟨S16384x128, .f32⟩
  | 9 => ⟨S16384x128, .f32⟩
  | 10 => ⟨S16384x128, .f32⟩
  | 11 => ⟨S_, .f32⟩
  | 12 => ⟨S16384, .f32⟩
  | 13 => ⟨S16384x1, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S_, .f32⟩
  | 20 => ⟨S16384x128, .f32⟩
  | 21 => ⟨S16384x128, .f32⟩
  | 22 => ⟨S_, .f32⟩
  | 23 => ⟨S16384x127, .f32⟩
  | 24 => ⟨S16384x127, .f32⟩
  | 25 => ⟨S16384x127, .f32⟩
  | 26 => ⟨S16384x127, .f32⟩
  | 27 => ⟨S16384x127, .i1⟩
  | 28 => ⟨S16384x127, .f32⟩
  | 29 => ⟨S16384x127, .f32⟩
  | 30 => ⟨S16384x127, .f32⟩
  | 31 => ⟨S16384x127, .f32⟩
  | 32 => ⟨S16384x127, .f32⟩
  | 33 => ⟨S16384x127, .f32⟩
  | 34 => ⟨S16384x127, .f32⟩
  | 35 => ⟨S16384x127, .f32⟩
  | 36 => ⟨S_, .f32⟩
  | 37 => ⟨S16384x127, .f32⟩
  | 38 => ⟨S16384x127, .f32⟩
  | 39 => ⟨S_, .f32⟩
  | 40 => ⟨S16384x1, .f32⟩
  | 41 => ⟨S16384x129, .f32⟩
  | 42 => ⟨S_, .f32⟩
  | 43 => ⟨S16384x1, .f32⟩
  | 44 => ⟨S_, .f32⟩
  | 45 => ⟨S_, .f32⟩
  | 46 => ⟨S16384x128, .f32⟩
  | 47 => ⟨S16384x129, .f32⟩
  | 48 => ⟨S_, .i32⟩
  | 49 => ⟨S1, .i32⟩
  | 50 => ⟨S_, .f32⟩
  | 51 => ⟨S16384, .f32⟩
  | 52 => ⟨S16384x129, .f32⟩
  | 53 => ⟨S16384x128, .f32⟩
  | 54 => ⟨S16384x128, .f32⟩
  | 55 => ⟨S16384x128, .f32⟩
  | 56 => ⟨S_, .f32⟩
  | 57 => ⟨S_, .f32⟩
  | 58 => ⟨S16384x128, .f32⟩
  | 59 => ⟨S16384x129, .f32⟩
  | 60 => ⟨S16384x129, .f32⟩
  | 61 => ⟨S16384x129, .f32⟩
  | 62 => ⟨S16384x129, .f32⟩
  | 63 => ⟨S16384x129, .f32⟩
  | 64 => ⟨S16384x128, .f32⟩
  | 65 => ⟨S16384x128, .f32⟩
  | 66 => ⟨S16384x128, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S1x128x1, .f32⟩
  | 75 => ⟨S16384x1x129, .f32⟩
  | 76 => ⟨S16384x128x129, .f32⟩
  | 77 => ⟨S16384x128x129, .f32⟩
  | 78 => ⟨S16384x128x129, .i1⟩
  | 79 => ⟨S16384x128x129, .i32⟩
  | 80 => ⟨S_, .i32⟩
  | 81 => ⟨S16384x128, .i32⟩
  | 82 => ⟨S_, .i32⟩
  | 83 => ⟨S16384x128, .i32⟩
  | 84 => ⟨S16384x128, .i32⟩
  | 85 => ⟨S_, .i32⟩
  | 86 => ⟨S16384x128, .i32⟩
  | 87 => ⟨S16384x128, .i1⟩
  | 88 => ⟨S_, .i32⟩
  | 89 => ⟨S16384x128, .i32⟩
  | 90 => ⟨S16384x128, .i32⟩
  | 91 => ⟨S16384x128, .i32⟩
  | 92 => ⟨S16384x128x1, .i32⟩
  | 93 => ⟨S1, .i32⟩
  | 94 => ⟨S_, .i32⟩
  | 95 => ⟨S16384x128x1, .i32⟩
  | 96 => ⟨S16384x128x1, .i1⟩
  | 97 => ⟨S1x1x1, .i32⟩
  | 98 => ⟨S16384x128x1, .i32⟩
  | 99 => ⟨S16384x128x1, .i1⟩
  | 100 => ⟨S16384x128x1, .i1⟩
  | 101 => ⟨S_, .i1⟩
  | 102 => ⟨S16384x128, .i1⟩
  | 103 => ⟨S16384x128, .f32⟩
  | 104 => ⟨S_, .f32⟩
  | 105 => ⟨S16384x128, .f32⟩
  | 106 => ⟨S16384x128, .f32⟩
  | 107 => ⟨S_, .i32⟩
  | 108 => ⟨S16384x128, .i32⟩
  | 109 => ⟨S16384x128, .i1⟩
  | 110 => ⟨S_, .i32⟩
  | 111 => ⟨S16384x128, .i32⟩
  | 112 => ⟨S16384x128, .i32⟩
  | 113 => ⟨S16384x128, .i32⟩
  | 114 => ⟨S16384x128x1, .i32⟩
  | 115 => ⟨S1, .i32⟩
  | 116 => ⟨S_, .i32⟩
  | 117 => ⟨S16384x128x1, .i32⟩
  | 118 => ⟨S16384x128x1, .i1⟩
  | 119 => ⟨S1x1x1, .i32⟩
  | 120 => ⟨S16384x128x1, .i32⟩
  | 121 => ⟨S16384x128x1, .i1⟩
  | 122 => ⟨S16384x128x1, .i1⟩
  | 123 => ⟨S_, .i1⟩
  | 124 => ⟨S16384x128, .i1⟩
  | 125 => ⟨S16384x128, .f32⟩
  | 126 => ⟨S_, .f32⟩
  | 127 => ⟨S16384x128, .f32⟩
  | _ => ⟨S16384x256, .f32⟩

abbrev hbmTy0_2 (i : Nat) : BufTy := match i % 128 with
  | 0 => ⟨S16384x128, .f32⟩
  | 1 => ⟨S_, .i32⟩
  | 2 => ⟨S16384x128, .i32⟩
  | 3 => ⟨S16384x128, .i1⟩
  | 4 => ⟨S_, .i32⟩
  | 5 => ⟨S16384x128, .i32⟩
  | 6 => ⟨S16384x128, .i32⟩
  | 7 => ⟨S16384x128, .i32⟩
  | 8 => ⟨S16384x128x1, .i32⟩
  | 9 => ⟨S1, .i32⟩
  | 10 => ⟨S_, .i32⟩
  | 11 => ⟨S16384x128x1, .i32⟩
  | 12 => ⟨S16384x128x1, .i1⟩
  | 13 => ⟨S1x1x1, .i32⟩
  | 14 => ⟨S16384x128x1, .i32⟩
  | 15 => ⟨S16384x128x1, .i1⟩
  | 16 => ⟨S16384x128x1, .i1⟩
  | 17 => ⟨S_, .i1⟩
  | 18 => ⟨S16384x128, .i1⟩
  | 19 => ⟨S16384x128, .f32⟩
  | 20 => ⟨S_, .f32⟩
  | 21 => ⟨S16384x128, .f32⟩
  | 22 => ⟨S16384x128, .f32⟩
  | 23 => ⟨S_, .i32⟩
  | 24 => ⟨S16384x128, .i32⟩
  | 25 => ⟨S16384x128, .i1⟩
  | 26 => ⟨S_, .i32⟩
  | 27 => ⟨S16384x128, .i32⟩
  | 28 => ⟨S16384x128, .i32⟩
  | 29 => ⟨S16384x128, .i32⟩
  | 30 => ⟨S16384x128x1, .i32⟩
  | 31 => ⟨S1, .i32⟩
  | 32 => ⟨S_, .i32⟩
  | 33 => ⟨S16384x128x1, .i32⟩
  | 34 => ⟨S16384x128x1, .i1⟩
  | 35 => ⟨S1x1x1, .i32⟩
  | 36 => ⟨S16384x128x1, .i32⟩
  | 37 => ⟨S16384x128x1, .i1⟩
  | 38 => ⟨S16384x128x1, .i1⟩
  | 39 => ⟨S_, .i1⟩
  | 40 => ⟨S16384x128, .i1⟩
  | 41 => ⟨S16384x128, .f32⟩
  | 42 => ⟨S_, .f32⟩
  | 43 => ⟨S16384x128, .f32⟩
  | 44 => ⟨S16384x128, .f32⟩
  | 45 => ⟨S16384x128, .f32⟩
  | 46 => ⟨S_, .i32⟩
  | 47 => ⟨S16384x128, .i32⟩
  | 48 => ⟨S16384x128, .i1⟩
  | 49 => ⟨S_, .i32⟩
  | 50 => ⟨S16384x128, .i32⟩
  | 51 => ⟨S16384x128, .i32⟩
  | 52 => ⟨S16384x128, .i32⟩
  | 53 => ⟨S16384x128x1, .i32⟩
  | 54 => ⟨S1, .i32⟩
  | 55 => ⟨S_, .i32⟩
  | 56 => ⟨S16384x128x1, .i32⟩
  | 57 => ⟨S16384x128x1, .i1⟩
  | 58 => ⟨S1x1x1, .i32⟩
  | 59 => ⟨S16384x128x1, .i32⟩
  | 60 => ⟨S16384x128x1, .i1⟩
  | 61 => ⟨S16384x128x1, .i1⟩
  | 62 => ⟨S_, .i1⟩
  | 63 => ⟨S16384x128, .i1⟩
  | 64 => ⟨S16384x128, .f32⟩
  | 65 => ⟨S_, .f32⟩
  | 66 => ⟨S16384x128, .f32⟩
  | 67 => ⟨S16384x128, .f32⟩
  | 68 => ⟨S_, .i32⟩
  | 69 => ⟨S16384x128, .i32⟩
  | 70 => ⟨S16384x128, .i1⟩
  | 71 => ⟨S_, .i32⟩
  | 72 => ⟨S16384x128, .i32⟩
  | 73 => ⟨S16384x128, .i32⟩
  | 74 => ⟨S16384x128, .i32⟩
  | 75 => ⟨S16384x128x1, .i32⟩
  | 76 => ⟨S1, .i32⟩
  | 77 => ⟨S_, .i32⟩
  | 78 => ⟨S16384x128x1, .i32⟩
  | 79 => ⟨S16384x128x1, .i1⟩
  | 80 => ⟨S1x1x1, .i32⟩
  | 81 => ⟨S16384x128x1, .i32⟩
  | 82 => ⟨S16384x128x1, .i1⟩
  | 83 => ⟨S16384x128x1, .i1⟩
  | 84 => ⟨S_, .i1⟩
  | 85 => ⟨S16384x128, .i1⟩
  | 86 => ⟨S16384x128, .f32⟩
  | 87 => ⟨S_, .f32⟩
  | 88 => ⟨S16384x128, .f32⟩
  | 89 => ⟨S16384x128, .f32⟩
  | 90 => ⟨S16384x128, .f32⟩
  | 91 => ⟨S_, .i32⟩
  | 92 => ⟨S16384x128, .i32⟩
  | 93 => ⟨S16384x128, .i1⟩
  | 94 => ⟨S_, .i32⟩
  | 95 => ⟨S16384x128, .i32⟩
  | 96 => ⟨S16384x128, .i32⟩
  | 97 => ⟨S16384x128, .i32⟩
  | 98 => ⟨S16384x128x1, .i32⟩
  | 99 => ⟨S1, .i32⟩
  | 100 => ⟨S_, .i32⟩
  | 101 => ⟨S16384x128x1, .i32⟩
  | 102 => ⟨S16384x128x1, .i1⟩
  | 103 => ⟨S1x1x1, .i32⟩
  | 104 => ⟨S16384x128x1, .i32⟩
  | 105 => ⟨S16384x128x1, .i1⟩
  | 106 => ⟨S16384x128x1, .i1⟩
  | 107 => ⟨S_, .i1⟩
  | 108 => ⟨S16384x128, .i1⟩
  | 109 => ⟨S16384x128, .f32⟩
  | 110 => ⟨S_, .f32⟩
  | 111 => ⟨S16384x128, .f32⟩
  | 112 => ⟨S16384x128, .f32⟩
  | 113 => ⟨S1x128, .f32⟩
  | 114 => ⟨S16384x128, .f32⟩
  | 115 => ⟨S16384x128, .f32⟩
  | 116 => ⟨S16384x128, .f32⟩
  | 117 => ⟨S_, .f32⟩
  | 118 => ⟨S16384x128, .f32⟩
  | 119 => ⟨S16384x128, .f32⟩
  | 120 => ⟨S16384x128, .f32⟩
  | 121 => ⟨S16384x128, .f32⟩
  | 122 => ⟨S16384x128, .f32⟩
  | 123 => ⟨S16384x128, .f32⟩
  | 124 => ⟨S16384x128, .f32⟩
  | 125 => ⟨S16384x128, .f32⟩
  | 126 => ⟨S16384x128, .f32⟩
  | 127 => ⟨S_, .f32⟩
  | _ => ⟨S16384x256, .f32⟩

abbrev hbmTy0_3 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S16384x128, .f32⟩
  | 5 => ⟨S16384x128, .f32⟩
  | 6 => ⟨S16384x128, .f32⟩
  | _ => ⟨S16384x256, .f32⟩

abbrev hbmTy (i : Nat) : BufTy := match i / 128 with
  | 0 => hbmTy0_0 i
  | 1 => hbmTy0_1 i
  | 2 => hbmTy0_2 i
  | 3 => hbmTy0_3 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_11 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_12 : Ref sig .tc := ⟨.hbm, 124, rfl⟩
abbrev main_v91 : Ref sig .tc := ⟨.hbm, 125, rfl⟩
abbrev main_v92 : Ref sig .tc := ⟨.hbm, 126, rfl⟩
abbrev main_cst_13 : Ref sig .tc := ⟨.hbm, 127, rfl⟩
abbrev main_v93 : Ref sig .tc := ⟨.hbm, 128, rfl⟩
abbrev main_v94 : Ref sig .tc := ⟨.hbm, 129, rfl⟩
abbrev main_cst_14 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_call2_cst : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_v7 : Ref sig .tc := ⟨.hbm, 158, rfl⟩
abbrev main_call2_v8 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_v110 : Ref sig .tc := ⟨.hbm, 163, rfl⟩
abbrev main_cst_19 : Ref sig .tc := ⟨.hbm, 164, rfl⟩
abbrev main_v111 : Ref sig .tc := ⟨.hbm, 165, rfl⟩
abbrev main_v112 : Ref sig .tc := ⟨.hbm, 166, rfl⟩
abbrev main_cst_20 : Ref sig .tc := ⟨.hbm, 167, rfl⟩
abbrev main_v113 : Ref sig .tc := ⟨.hbm, 168, rfl⟩
abbrev main_v114 : Ref sig .tc := ⟨.hbm, 169, rfl⟩
abbrev main_cst_21 : Ref sig .tc := ⟨.hbm, 170, rfl⟩
abbrev main_v115 : Ref sig .tc := ⟨.hbm, 171, rfl⟩
abbrev main_call3_call0_cst : Ref sig .tc := ⟨.hbm, 172, rfl⟩
abbrev main_call3_call0_v0 : Ref sig .tc := ⟨.hbm, 173, rfl⟩
abbrev main_v116 : Ref sig .tc := ⟨.hbm, 174, rfl⟩
abbrev main_v117 : Ref sig .tc := ⟨.hbm, 175, rfl⟩
abbrev main_c : Ref sig .tc := ⟨.hbm, 176, rfl⟩
abbrev main_v118 : Ref sig .tc := ⟨.hbm, 177, rfl⟩
abbrev main_cst_22 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_call4_call0_cst : Ref sig .tc := ⟨.hbm, 184, rfl⟩
abbrev main_call4_call0_v0 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_23 : Ref sig .tc := ⟨.hbm, 196, rfl⟩
abbrev main_v134 : Ref sig .tc := ⟨.hbm, 197, rfl⟩
abbrev main_v135 : Ref sig .tc := ⟨.hbm, 198, rfl⟩
abbrev main_cst_24 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_c_25 : Ref sig .tc := ⟨.hbm, 208, rfl⟩
abbrev main_v144 : Ref sig .tc := ⟨.hbm, 209, rfl⟩
abbrev main_c_26 : Ref sig .tc := ⟨.hbm, 210, rfl⟩
abbrev main_v145 : Ref sig .tc := ⟨.hbm, 211, rfl⟩
abbrev main_v146 : Ref sig .tc := ⟨.hbm, 212, rfl⟩
abbrev main_call5_c : Ref sig .tc := ⟨.hbm, 213, rfl⟩
abbrev main_call5_v0 : Ref sig .tc := ⟨.hbm, 214, rfl⟩
abbrev main_call5_v1 : Ref sig .tc := ⟨.hbm, 215, rfl⟩
abbrev main_call5_c_0 : Ref sig .tc := ⟨.hbm, 216, rfl⟩
abbrev main_call5_v2 : Ref sig .tc := ⟨.hbm, 217, rfl⟩
abbrev main_call5_v3 : Ref sig .tc := ⟨.hbm, 218, rfl⟩
abbrev main_call5_v4 : Ref sig .tc := ⟨.hbm, 219, rfl⟩
abbrev main_call5_v5 : Ref sig .tc := ⟨.hbm, 220, rfl⟩
abbrev main_call5_c_1 : Ref sig .tc := ⟨.hbm, 221, rfl⟩
abbrev main_call5_c_2 : Ref sig .tc := ⟨.hbm, 222, rfl⟩
abbrev main_call5_v6 : Ref sig .tc := ⟨.hbm, 223, rfl⟩
abbrev main_call5_v7 : Ref sig .tc := ⟨.hbm, 224, rfl⟩
abbrev main_call5_v8 : Ref sig .tc := ⟨.hbm, 225, rfl⟩
abbrev main_call5_v9 : Ref sig .tc := ⟨.hbm, 226, rfl⟩
abbrev main_call5_v10 : Ref sig .tc := ⟨.hbm, 227, rfl⟩
abbrev main_call5_v11 : Ref sig .tc := ⟨.hbm, 228, rfl⟩
abbrev main_call5_c_3 : Ref sig .tc := ⟨.hbm, 229, rfl⟩
abbrev main_call5_v12 : Ref sig .tc := ⟨.hbm, 230, rfl⟩
abbrev main_call5_v13 : Ref sig .tc := ⟨.hbm, 231, rfl⟩
abbrev main_call5_cst : Ref sig .tc := ⟨.hbm, 232, rfl⟩
abbrev main_call5_v14 : Ref sig .tc := ⟨.hbm, 233, rfl⟩
abbrev main_v147 : Ref sig .tc := ⟨.hbm, 234, rfl⟩
abbrev main_call6_c : Ref sig .tc := ⟨.hbm, 235, rfl⟩
abbrev main_call6_v0 : Ref sig .tc := ⟨.hbm, 236, rfl⟩
abbrev main_call6_v1 : Ref sig .tc := ⟨.hbm, 237, rfl⟩
abbrev main_call6_c_0 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_v5 : Ref sig .tc := ⟨.hbm, 242, rfl⟩
abbrev main_call6_c_1 : Ref sig .tc := ⟨.hbm, 243, rfl⟩
abbrev main_call6_c_2 : Ref sig .tc := ⟨.hbm, 244, rfl⟩
abbrev main_call6_v6 : Ref sig .tc := ⟨.hbm, 245, rfl⟩
abbrev main_call6_v7 : Ref sig .tc := ⟨.hbm, 246, rfl⟩
abbrev main_call6_v8 : Ref sig .tc := ⟨.hbm, 247, rfl⟩
abbrev main_call6_v9 : Ref sig .tc := ⟨.hbm, 248, rfl⟩
abbrev main_call6_v10 : Ref sig .tc := ⟨.hbm, 249, rfl⟩
abbrev main_call6_v11 : Ref sig .tc := ⟨.hbm, 250, rfl⟩
abbrev main_call6_c_3 : Ref sig .tc := ⟨.hbm, 251, rfl⟩
abbrev main_call6_v12 : Ref sig .tc := ⟨.hbm, 252, rfl⟩
abbrev main_call6_v13 : Ref sig .tc := ⟨.hbm, 253, rfl⟩
abbrev main_call6_cst : Ref sig .tc := ⟨.hbm, 254, rfl⟩
abbrev main_call6_v14 : Ref sig .tc := ⟨.hbm, 255, rfl⟩
abbrev main_v148 : Ref sig .tc := ⟨.hbm, 256, rfl⟩
abbrev main_call7_c : Ref sig .tc := ⟨.hbm, 257, rfl⟩
abbrev main_call7_v0 : Ref sig .tc := ⟨.hbm, 258, rfl⟩
abbrev main_call7_v1 : Ref sig .tc := ⟨.hbm, 259, rfl⟩
abbrev main_call7_c_0 : Ref sig .tc := ⟨.hbm, 260, rfl⟩
abbrev main_call7_v2 : Ref sig .tc := ⟨.hbm, 261, rfl⟩
abbrev main_call7_v3 : Ref sig .tc := ⟨.hbm, 262, rfl⟩
abbrev main_call7_v4 : Ref sig .tc := ⟨.hbm, 263, rfl⟩
abbrev main_call7_v5 : Ref sig .tc := ⟨.hbm, 264, rfl⟩
abbrev main_call7_c_1 : Ref sig .tc := ⟨.hbm, 265, rfl⟩
abbrev main_call7_c_2 : Ref sig .tc := ⟨.hbm, 266, rfl⟩
abbrev main_call7_v6 : Ref sig .tc := ⟨.hbm, 267, rfl⟩
abbrev main_call7_v7 : Ref sig .tc := ⟨.hbm, 268, rfl⟩
abbrev main_call7_v8 : Ref sig .tc := ⟨.hbm, 269, rfl⟩
abbrev main_call7_v9 : Ref sig .tc := ⟨.hbm, 270, rfl⟩
abbrev main_call7_v10 : Ref sig .tc := ⟨.hbm, 271, rfl⟩
abbrev main_call7_v11 : Ref sig .tc := ⟨.hbm, 272, rfl⟩
abbrev main_call7_c_3 : Ref sig .tc := ⟨.hbm, 273, rfl⟩
abbrev main_call7_v12 : Ref sig .tc := ⟨.hbm, 274, rfl⟩
abbrev main_call7_v13 : Ref sig .tc := ⟨.hbm, 275, rfl⟩
abbrev main_call7_cst : Ref sig .tc := ⟨.hbm, 276, rfl⟩
abbrev main_call7_v14 : Ref sig .tc := ⟨.hbm, 277, rfl⟩
abbrev main_v149 : Ref sig .tc := ⟨.hbm, 278, rfl⟩
abbrev main_call8_c : Ref sig .tc := ⟨.hbm, 279, rfl⟩
abbrev main_call8_v0 : Ref sig .tc := ⟨.hbm, 280, rfl⟩
abbrev main_call8_v1 : Ref sig .tc := ⟨.hbm, 281, rfl⟩
abbrev main_call8_c_0 : Ref sig .tc := ⟨.hbm, 282, rfl⟩
abbrev main_call8_v2 : Ref sig .tc := ⟨.hbm, 283, rfl⟩
abbrev main_call8_v3 : Ref sig .tc := ⟨.hbm, 284, rfl⟩
abbrev main_call8_v4 : Ref sig .tc := ⟨.hbm, 285, rfl⟩
abbrev main_call8_v5 : Ref sig .tc := ⟨.hbm, 286, rfl⟩
abbrev main_call8_c_1 : Ref sig .tc := ⟨.hbm, 287, rfl⟩
abbrev main_call8_c_2 : Ref sig .tc := ⟨.hbm, 288, rfl⟩
abbrev main_call8_v6 : Ref sig .tc := ⟨.hbm, 289, rfl⟩
abbrev main_call8_v7 : Ref sig .tc := ⟨.hbm, 290, rfl⟩
abbrev main_call8_v8 : Ref sig .tc := ⟨.hbm, 291, rfl⟩
abbrev main_call8_v9 : Ref sig .tc := ⟨.hbm, 292, rfl⟩
abbrev main_call8_v10 : Ref sig .tc := ⟨.hbm, 293, rfl⟩
abbrev main_call8_v11 : Ref sig .tc := ⟨.hbm, 294, rfl⟩
abbrev main_call8_c_3 : Ref sig .tc := ⟨.hbm, 295, rfl⟩
abbrev main_call8_v12 : Ref sig .tc := ⟨.hbm, 296, rfl⟩
abbrev main_call8_v13 : Ref sig .tc := ⟨.hbm, 297, rfl⟩
abbrev main_call8_cst : Ref sig .tc := ⟨.hbm, 298, rfl⟩
abbrev main_call8_v14 : Ref sig .tc := ⟨.hbm, 299, rfl⟩
abbrev main_v150 : Ref sig .tc := ⟨.hbm, 300, rfl⟩
abbrev main_v151 : Ref sig .tc := ⟨.hbm, 301, rfl⟩
abbrev main_call9_c : Ref sig .tc := ⟨.hbm, 302, rfl⟩
abbrev main_call9_v0 : Ref sig .tc := ⟨.hbm, 303, rfl⟩
abbrev main_call9_v1 : Ref sig .tc := ⟨.hbm, 304, rfl⟩
abbrev main_call9_c_0 : Ref sig .tc := ⟨.hbm, 305, rfl⟩
abbrev main_call9_v2 : Ref sig .tc := ⟨.hbm, 306, rfl⟩
abbrev main_call9_v3 : Ref sig .tc := ⟨.hbm, 307, rfl⟩
abbrev main_call9_v4 : Ref sig .tc := ⟨.hbm, 308, rfl⟩
abbrev main_call9_v5 : Ref sig .tc := ⟨.hbm, 309, rfl⟩
abbrev main_call9_c_1 : Ref sig .tc := ⟨.hbm, 310, rfl⟩
abbrev main_call9_c_2 : Ref sig .tc := ⟨.hbm, 311, rfl⟩
abbrev main_call9_v6 : Ref sig .tc := ⟨.hbm, 312, rfl⟩
abbrev main_call9_v7 : Ref sig .tc := ⟨.hbm, 313, rfl⟩
abbrev main_call9_v8 : Ref sig .tc := ⟨.hbm, 314, rfl⟩
abbrev main_call9_v9 : Ref sig .tc := ⟨.hbm, 315, rfl⟩
abbrev main_call9_v10 : Ref sig .tc := ⟨.hbm, 316, rfl⟩
abbrev main_call9_v11 : Ref sig .tc := ⟨.hbm, 317, rfl⟩
abbrev main_call9_c_3 : Ref sig .tc := ⟨.hbm, 318, rfl⟩
abbrev main_call9_v12 : Ref sig .tc := ⟨.hbm, 319, rfl⟩
abbrev main_call9_v13 : Ref sig .tc := ⟨.hbm, 320, rfl⟩
abbrev main_call9_cst : Ref sig .tc := ⟨.hbm, 321, rfl⟩
abbrev main_call9_v14 : Ref sig .tc := ⟨.hbm, 322, rfl⟩
abbrev main_v152 : Ref sig .tc := ⟨.hbm, 323, rfl⟩
abbrev main_call10_c : Ref sig .tc := ⟨.hbm, 324, rfl⟩
abbrev main_call10_v0 : Ref sig .tc := ⟨.hbm, 325, rfl⟩
abbrev main_call10_v1 : Ref sig .tc := ⟨.hbm, 326, rfl⟩
abbrev main_call10_c_0 : Ref sig .tc := ⟨.hbm, 327, rfl⟩
abbrev main_call10_v2 : Ref sig .tc := ⟨.hbm, 328, rfl⟩
abbrev main_call10_v3 : Ref sig .tc := ⟨.hbm, 329, rfl⟩
abbrev main_call10_v4 : Ref sig .tc := ⟨.hbm, 330, rfl⟩
abbrev main_call10_v5 : Ref sig .tc := ⟨.hbm, 331, rfl⟩
abbrev main_call10_c_1 : Ref sig .tc := ⟨.hbm, 332, rfl⟩
abbrev main_call10_c_2 : Ref sig .tc := ⟨.hbm, 333, rfl⟩
abbrev main_call10_v6 : Ref sig .tc := ⟨.hbm, 334, rfl⟩
abbrev main_call10_v7 : Ref sig .tc := ⟨.hbm, 335, rfl⟩
abbrev main_call10_v8 : Ref sig .tc := ⟨.hbm, 336, rfl⟩
abbrev main_call10_v9 : Ref sig .tc := ⟨.hbm, 337, rfl⟩
abbrev main_call10_v10 : Ref sig .tc := ⟨.hbm, 338, rfl⟩
abbrev main_call10_v11 : Ref sig .tc := ⟨.hbm, 339, rfl⟩
abbrev main_call10_c_3 : Ref sig .tc := ⟨.hbm, 340, rfl⟩
abbrev main_call10_v12 : Ref sig .tc := ⟨.hbm, 341, rfl⟩
abbrev main_call10_v13 : Ref sig .tc := ⟨.hbm, 342, rfl⟩
abbrev main_call10_cst : Ref sig .tc := ⟨.hbm, 343, rfl⟩
abbrev main_call10_v14 : Ref sig .tc := ⟨.hbm, 344, rfl⟩
abbrev main_v153 : Ref sig .tc := ⟨.hbm, 345, rfl⟩
abbrev main_v154 : Ref sig .tc := ⟨.hbm, 346, rfl⟩
abbrev main_call11_c : Ref sig .tc := ⟨.hbm, 347, rfl⟩
abbrev main_call11_v0 : Ref sig .tc := ⟨.hbm, 348, rfl⟩
abbrev main_call11_v1 : Ref sig .tc := ⟨.hbm, 349, rfl⟩
abbrev main_call11_c_0 : Ref sig .tc := ⟨.hbm, 350, rfl⟩
abbrev main_call11_v2 : Ref sig .tc := ⟨.hbm, 351, rfl⟩
abbrev main_call11_v3 : Ref sig .tc := ⟨.hbm, 352, rfl⟩
abbrev main_call11_v4 : Ref sig .tc := ⟨.hbm, 353, rfl⟩
abbrev main_call11_v5 : Ref sig .tc := ⟨.hbm, 354, rfl⟩
abbrev main_call11_c_1 : Ref sig .tc := ⟨.hbm, 355, rfl⟩
abbrev main_call11_c_2 : Ref sig .tc := ⟨.hbm, 356, rfl⟩
abbrev main_call11_v6 : Ref sig .tc := ⟨.hbm, 357, rfl⟩
abbrev main_call11_v7 : Ref sig .tc := ⟨.hbm, 358, rfl⟩
abbrev main_call11_v8 : Ref sig .tc := ⟨.hbm, 359, rfl⟩
abbrev main_call11_v9 : Ref sig .tc := ⟨.hbm, 360, rfl⟩
abbrev main_call11_v10 : Ref sig .tc := ⟨.hbm, 361, rfl⟩
abbrev main_call11_v11 : Ref sig .tc := ⟨.hbm, 362, rfl⟩
abbrev main_call11_c_3 : Ref sig .tc := ⟨.hbm, 363, rfl⟩
abbrev main_call11_v12 : Ref sig .tc := ⟨.hbm, 364, rfl⟩
abbrev main_call11_v13 : Ref sig .tc := ⟨.hbm, 365, rfl⟩
abbrev main_call11_cst : Ref sig .tc := ⟨.hbm, 366, rfl⟩
abbrev main_call11_v14 : Ref sig .tc := ⟨.hbm, 367, rfl⟩
abbrev main_v155 : Ref sig .tc := ⟨.hbm, 368, rfl⟩
abbrev main_v156 : Ref sig .tc := ⟨.hbm, 369, rfl⟩
abbrev main_v157 : Ref sig .tc := ⟨.hbm, 370, rfl⟩
abbrev main_v158 : Ref sig .tc := ⟨.hbm, 371, rfl⟩
abbrev main_v159 : Ref sig .tc := ⟨.hbm, 372, rfl⟩
abbrev main_cst_27 : Ref sig .tc := ⟨.hbm, 373, rfl⟩
abbrev main_v160 : Ref sig .tc := ⟨.hbm, 374, rfl⟩
abbrev main_v161 : Ref sig .tc := ⟨.hbm, 375, rfl⟩
abbrev main_v162 : Ref sig .tc := ⟨.hbm, 376, rfl⟩
abbrev main_v163 : Ref sig .tc := ⟨.hbm, 377, rfl⟩
abbrev main_v164 : Ref sig .tc := ⟨.hbm, 378, rfl⟩
abbrev main_v165 : Ref sig .tc := ⟨.hbm, 379, rfl⟩
abbrev main_v166 : Ref sig .tc := ⟨.hbm, 380, rfl⟩
abbrev main_v167 : Ref sig .tc := ⟨.hbm, 381, rfl⟩
abbrev main_v168 : Ref sig .tc := ⟨.hbm, 382, rfl⟩
abbrev main_cst_28 : Ref sig .tc := ⟨.hbm, 383, rfl⟩
abbrev main_v169 : Ref sig .tc := ⟨.hbm, 384, rfl⟩
abbrev main_v170 : Ref sig .tc := ⟨.hbm, 385, rfl⟩
abbrev main_v171 : Ref sig .tc := ⟨.hbm, 386, rfl⟩
abbrev main_v172 : Ref sig .tc := ⟨.hbm, 387, rfl⟩
abbrev main_v173 : Ref sig .tc := ⟨.hbm, 388, rfl⟩
abbrev main_v174 : Ref sig .tc := ⟨.hbm, 389, rfl⟩
abbrev main_v175 : Ref sig .tc := ⟨.hbm, 390, rfl⟩

abbrev nD : Nat := 1
abbrev τ : Topo := Topo.v7x

variable {F : FTy → Type} [FloatOps F]
-- ==== Proof.RefOps.lean ====
/-
  The reference's @main as a list of its host operations, cut into stages: each stage computes one or two values that
  the proof names. The operations of a called function are written once, over the call's buffers.
-/
module

public import proofs.«01_k».proof.Proof.Gen.ReferenceIdeal
public import Idealize.ShloMosaic.Lib.StableHlo.RunHlo
public import Idealize.ShloMosaic.Lib.StableHlo.RunRead

@[expose] public section

noncomputable section

namespace Cert.Ref

open Cert.ReferenceIdeal Cert.ReferenceIdeal.Gen Idealize.ShloMosaic Idealize.ShloMosaic.TcCoe Idealize.ShloMosaic.StableHlo

variable {F : FTy → Type} [FloatOps F]

variable (F) in
/-- What a buffer of shape `S` and entries `e` holds. -/
abbrev Arr (S : Shape) (e : EltTy) : Type := (⟨S, e⟩ : BufTy).Contents (Elt F)

variable (F) in
/-- A list of the reference's operations. -/
abbrev Ops : Type := List (HloOp τ sig (Elt F))

/-- The operations of one call of the function computing the maximum with zero. -/
def reluOps (arg0 : TRef sig ⟨S16384x1024, .f32⟩) (φ : fn_relu.Bufs) : Ops F :=
  [ TRef.nullary φ.cst (constant S_ .f32 0x00000000#32),
    TRef.unary φ.cst φ.v0 (broadcastInDim S16384x1024 ![] bcast_S_S16384x1024),
    TRef.binary arg0 φ.v0 φ.v1 maximumf ]

/-- The operations of one call of the function computing softplus. -/
def softplusOps (arg0 : TRef sig ⟨S16384x127, .f32⟩) (φ : fn_softplus.Bufs) : Ops F :=
  [ TRef.nullary φ.cst (constant S_ .f32 0x00000000#32),
    TRef.unary φ.cst φ.v0 (broadcastInDim S16384x127 ![] bcast_S_S16384x127),
    TRef.binary arg0 φ.v0 φ.v1 maximumf,
    TRef.unary φ.cst φ.v2 (broadcastInDim S16384x127 ![] bcast_S_S16384x127),
    TRef.binary arg0 φ.v2 φ.v3 subf,
    TRef.binary φ.v3 φ.v3 φ.v4 (cmpf .une),
    TRef.unary φ.cst φ.v5 (broadcastInDim S16384x127 ![] bcast_S_S16384x127),
    TRef.binary arg0 φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- The operations of one call of the function computing the running sum. -/
def cumsumOps (arg0 : TRef sig ⟨S16384x128, .f32⟩) (φ : fn_cumsum_0.Bufs) : Ops F :=
  [ TRef.nullary φ.cst (constant S_ .f32 0x00000000#32),
    TRef.unary φ.cst φ.v0 (broadcastInDim S_ ![] bcast_S_S_),
    TRef.binary arg0 φ.v0 φ.v1 (fun x v => Host.reduceWindowAdd ![1, 128] ![1, 1] ![0, 127] ![0, 0] x v reduceWindows_S16384x128_S16384x128_w1s1p0_0_w128s1p127_0 h_S_) ]

/-- The operations of one call of the function computing the entries of an array of 129 knots at given indices. -/
def takeOps (arg0 : TRef sig ⟨S16384x129, .f32⟩) (arg1 : TRef sig ⟨S16384x128, .i32⟩) (φ : fn_take_along_axis.Bufs) : Ops F :=
  [ TRef.nullary φ.c (constantI S_ 32 0#32),
    TRef.unary φ.c φ.v0 (broadcastInDim S16384x128 ![] bcast_S_S16384x128),
    TRef.binary arg1 φ.v0 φ.v1 (cmpi .slt),
    TRef.nullary φ.c_0 (constantI S_ 32 129#32),
    TRef.unary φ.c_0 φ.v2 (broadcastInDim S16384x128 ![] bcast_S_S16384x128),
    TRef.binary arg1 φ.v2 φ.v3 addi,
    TRef.ternary φ.v1 φ.v3 arg1 φ.v4 select,
    TRef.reshape φ.v4 φ.v5 (rfl : (.i32 : EltTy) = .i32) shapeCasts_S16384x128_S16384x128x1,
    TRef.nullary φ.c_1 (constantI S1 32 128#32),
    TRef.nullary φ.c_2 (constantI S_ 32 0#32),
    TRef.unary φ.c_2 φ.v6 (broadcastInDim S16384x128x1 ![] bcast_S_S16384x128x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x128x1 ![0, 1, 2] bcast_S1x1x1_S16384x128x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x128x1_S16384x128_d2 h_S_),
    TRef.binary arg0 φ.v5 φ.v13 (fun x i => Host.gather gather_S16384x129_S16384x128x1_S16384x128_n_1_0_0_1_2_11 x i),
    TRef.nullary φ.cst (constant S_ .f32 0x7FC00000#32),
    TRef.unary φ.cst φ.v14 (broadcastInDim S16384x128 ![] bcast_S_S16384x128),
    TRef.ternary φ.v12 φ.v13 φ.v14 φ.v15 select ]

/-- The operations of one call of the function computing the entries of an array of 128 values at given indices. -/
def takeOps1 (arg0 : TRef sig ⟨S16384x128, .f32⟩) (arg1 : TRef sig ⟨S16384x128, .i32⟩) (φ : fn_take_along_axis_1.Bufs) : Ops F :=
  [ TRef.nullary φ.c (constantI S_ 32 0#32),
    TRef.unary φ.c φ.v0 (broadcastInDim S16384x128 ![] bcast_S_S16384x128),
    TRef.binary arg1 φ.v0 φ.v1 (cmpi .slt),
    TRef.nullary φ.c_0 (constantI S_ 32 128#32),
    TRef.unary φ.c_0 φ.v2 (broadcastInDim S16384x128 ![] bcast_S_S16384x128),
    TRef.binary arg1 φ.v2 φ.v3 addi,
    TRef.ternary φ.v1 φ.v3 arg1 φ.v4 select,
    TRef.reshape φ.v4 φ.v5 (rfl : (.i32 : EltTy) = .i32) shapeCasts_S16384x128_S16384x128x1,
    TRef.nullary φ.c_1 (constantI S1 32 127#32),
    TRef.nullary φ.c_2 (constantI S_ 32 0#32),
    TRef.unary φ.c_2 φ.v6 (broadcastInDim S16384x128x1 ![] bcast_S_S16384x128x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x128x1 ![0, 1, 2] bcast_S1x1x1_S16384x128x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x128x1_S16384x128_d2 h_S_),
    TRef.binary arg0 φ.v5 φ.v13 (fun x i => Host.gather gather_S16384x128_S16384x128x1_S16384x128_n_1_0_0_1_2_11 x i),
    TRef.nullary φ.cst (constant S_ .f32 0x7FC00000#32),
    TRef.unary φ.cst φ.v14 (broadcastInDim S16384x128 ![] bcast_S_S16384x128),
    TRef.ternary φ.v12 φ.v13 φ.v14 φ.v15 select ]

/-- Stage: the first dense layer. -/
def dense1 : Ops F :=
  [ unary main_arg2 main_v0 ((transpose S256x1024 [1, 0] · transposes_S1024x256_S256x1024_1_0) : Arr F S1024x256 .f32 → Arr F S256x1024 .f32),
    binary main_arg0 main_v0 main_v1 ((fun l r => Host.dotGeneral dot_S16384x256_S256x1024_S16384x1024_1_0_0_1_n_n none l r) : Arr F S16384x256 .f32 → Arr F S256x1024 .f32 → Arr F S16384x1024 .f32),
    unary main_arg3 main_v2 (broadcastInDim S1x1024 ![1] bcast_S1024_S1x1024_1 : Arr F S1024 .f32 → Arr F S1x1024 .f32),
    unary main_v2 main_v3 (broadcastInDim S16384x1024 ![0, 1] bcast_S1x1024_S16384x1024_0_1 : Arr F S1x1024 .f32 → Arr F S16384x1024 .f32),
    binary main_v1 main_v3 main_v4 (addf : Arr F S16384x1024 .f32 → Arr F S16384x1024 .f32 → Arr F S16384x1024 .f32) ]

/-- Stage: the first layer norm and its maximum with zero. -/
def norm1 : Ops F :=
  [ nullary main_cst (constant S_ .f32 0x00000000#32),
    binary main_v4 main_cst main_v5 ((fun x v => Host.reduceAdd x v reducesTo_S16384x1024_S16384_d1 h_S_) : Arr F S16384x1024 .f32 → Arr F S_ .f32 → Arr F S16384 .f32),
    unary main_v5 main_v6 (broadcastInDim S16384x1 ![0] bcast_S16384_S16384x1_0 : Arr F S16384 .f32 → Arr F S16384x1 .f32),
    nullary main_cst_0 (constant S_ .f32 0x44800000#32),
    unary main_cst_0 main_v7 (broadcastInDim S16384x1 ![] bcast_S_S16384x1 : Arr F S_ .f32 → Arr F S16384x1 .f32),
    binary main_v6 main_v7 main_v8 (Host.divf : Arr F S16384x1 .f32 → Arr F S16384x1 .f32 → Arr F S16384x1 .f32),
    unary main_v8 main_v9 (broadcastInDim S16384x1024 ![0, 1] bcast_S16384x1_S16384x1024_0_1 : Arr F S16384x1 .f32 → Arr F S16384x1024 .f32),
    binary main_v4 main_v9 main_v10 (subf : Arr F S16384x1024 .f32 → Arr F S16384x1024 .f32 → Arr F S16384x1024 .f32),
    binary main_v10 main_v10 main_v11 (mulf : Arr F S16384x1024 .f32 → Arr F S16384x1024 .f32 → Arr F S16384x1024 .f32),
    nullary main_cst_1 (constant S_ .f32 0x00000000#32),
    binary main_v11 main_cst_1 main_v12 ((fun x v => Host.reduceAdd x v reducesTo_S16384x1024_S16384_d1 h_S_) : Arr F S16384x1024 .f32 → Arr F S_ .f32 → Arr F S16384 .f32),
    unary main_v12 main_v13 (broadcastInDim S16384x1 ![0] bcast_S16384_S16384x1_0 : Arr F S16384 .f32 → Arr F S16384x1 .f32),
    nullary main_cst_2 (constant S_ .f32 0x44800000#32),
    unary main_cst_2 main_v14 (broadcastInDim S16384x1 ![] bcast_S_S16384x1 : Arr F S_ .f32 → Arr F S16384x1 .f32),
    binary main_v13 main_v14 main_v15 (Host.divf : Arr F S16384x1 .f32 → Arr F S16384x1 .f32 → Arr F S16384x1 .f32),
    unary main_v8 main_v16 (broadcastInDim S16384x1024 ![0, 1] bcast_S16384x1_S16384x1024_0_1 : Arr F S16384x1 .f32 → Arr F S16384x1024 .f32),
    binary main_v4 main_v16 main_v17 (subf : Arr F S16384x1024 .f32 → Arr F S16384x1024 .f32 → Arr F S16384x1024 .f32),
    nullary main_cst_3 (constant S_ .f32 0x3727C5AC#32),
    unary main_cst_3 main_v18 (broadcastInDim S16384x1 ![] bcast_S_S16384x1 : Arr F S_ .f32 → Arr F S16384x1 .f32),
    binary main_v15 main_v18 main_v19 (addf : Arr F S16384x1 .f32 → Arr F S16384x1 .f32 → Arr F S16384x1 .f32),
    unary main_v19 main_v20 (Host.sqrt : Arr F S16384x1 .f32 → Arr F S16384x1 .f32),
    unary main_v20 main_v21 (broadcastInDim S16384x1024 ![0, 1] bcast_S16384x1_S16384x1024_0_1 : Arr F S16384x1 .f32 → Arr F S16384x1024 .f32),
    binary main_v17 main_v21 main_v22 (Host.divf : Arr F S16384x1024 .f32 → Arr F S16384x1024 .f32 → Arr F S16384x1024 .f32),
    unary main_arg4 main_v23 (broadcastInDim S1x1024 ![1] bcast_S1024_S1x1024_1 : Arr F S1024 .f32 → Arr F S1x1024 .f32),
    unary main_v23 main_v24 (broadcastInDim S16384x1024 ![0, 1] bcast_S1x1024_S16384x1024_0_1 : Arr F S1x1024 .f32 → Arr F S16384x1024 .f32),
    binary main_v22 main_v24 main_v25 (mulf : Arr F S16384x1024 .f32 → Arr F S16384x1024 .f32 → Arr F S16384x1024 .f32),
    unary main_arg5 main_v26 (broadcastInDim S1x1024 ![1] bcast_S1024_S1x1024_1 : Arr F S1024 .f32 → Arr F S1x1024 .f32),
    unary main_v26 main_v27 (broadcastInDim S16384x1024 ![0, 1] bcast_S1x1024_S16384x1024_0_1 : Arr F S1x1024 .f32 → Arr F S16384x1024 .f32),
    binary main_v25 main_v27 main_v28 (addf : Arr F S16384x1024 .f32 → Arr F S16384x1024 .f32 → Arr F S16384x1024 .f32) ]
  ++ reluOps (.of main_v28) main_call0

/-- Stage: the second dense layer. -/
def dense2 : Ops F :=
  [ binary main_v29 main_arg1 main_v30 ((fun a b => concatenate S16384x1040 1 [⟨S16384x1024, a⟩, ⟨S16384x16, b⟩] concatenates_S16384x1024_S16384x16_S16384x1040_d1) : Arr F S16384x1024 .f32 → Arr F S16384x16 .f32 → Arr F S16384x1040 .f32),
    unary main_arg6 main_v31 ((transpose S1040x1024 [1, 0] · transposes_S1024x1040_S1040x1024_1_0) : Arr F S1024x1040 .f32 → Arr F S1040x1024 .f32),
    binary main_v30 main_v31 main_v32 ((fun l r => Host.dotGeneral dot_S16384x1040_S1040x1024_S16384x1024_1_0_0_1_n_n none l r) : Arr F S16384x1040 .f32 → Arr F S1040x1024 .f32 → Arr F S16384x1024 .f32),
    unary main_arg7 main_v33 (broadcastInDim S1x1024 ![1] bcast_S1024_S1x1024_1 : Arr F S1024 .f32 → Arr F S1x1024 .f32),
    unary main_v33 main_v34 (broadcastInDim S16384x1024 ![0, 1] bcast_S1x1024_S16384x1024_0_1 : Arr F S1x1024 .f32 → Arr F S16384x1024 .f32),
    binary main_v32 main_v34 main_v35 (addf : Arr F S16384x1024 .f32 → Arr F S16384x1024 .f32 → Arr F S16384x1024 .f32) ]

/-- Stage: the second layer norm and its maximum with zero. -/
def norm2 : Ops F :=
  [ nullary main_cst_4 (constant S_ .f32 0x00000000#32),
    binary main_v35 main_cst_4 main_v36 ((fun x v => Host.reduceAdd x v reducesTo_S16384x1024_S16384_d1 h_S_) : Arr F S16384x1024 .f32 → Arr F S_ .f32 → Arr F S16384 .f32),
    unary main_v36 main_v37 (broadcastInDim S16384x1 ![0] bcast_S16384_S16384x1_0 : Arr F S16384 .f32 → Arr F S16384x1 .f32),
    nullary main_cst_5 (constant S_ .f32 0x44800000#32),
    unary main_cst_5 main_v38 (broadcastInDim S16384x1 ![] bcast_S_S16384x1 : Arr F S_ .f32 → Arr F S16384x1 .f32),
    binary main_v37 main_v38 main_v39 (Host.divf : Arr F S16384x1 .f32 → Arr F S16384x1 .f32 → Arr F S16384x1 .f32),
    unary main_v39 main_v40 (broadcastInDim S16384x1024 ![0, 1] bcast_S16384x1_S16384x1024_0_1 : Arr F S16384x1 .f32 → Arr F S16384x1024 .f32),
    binary main_v35 main_v40 main_v41 (subf : Arr F S16384x1024 .f32 → Arr F S16384x1024 .f32 → Arr F S16384x1024 .f32),
    binary main_v41 main_v41 main_v42 (mulf : Arr F S16384x1024 .f32 → Arr F S16384x1024 .f32 → Arr F S16384x1024 .f32),
    nullary main_cst_6 (constant S_ .f32 0x00000000#32),
    binary main_v42 main_cst_6 main_v43 ((fun x v => Host.reduceAdd x v reducesTo_S16384x1024_S16384_d1 h_S_) : Arr F S16384x1024 .f32 → Arr F S_ .f32 → Arr F S16384 .f32),
    unary main_v43 main_v44 (broadcastInDim S16384x1 ![0] bcast_S16384_S16384x1_0 : Arr F S16384 .f32 → Arr F S16384x1 .f32),
    nullary main_cst_7 (constant S_ .f32 0x44800000#32),
    unary main_cst_7 main_v45 (broadcastInDim S16384x1 ![] bcast_S_S16384x1 : Arr F S_ .f32 → Arr F S16384x1 .f32),
    binary main_v44 main_v45 main_v46 (Host.divf : Arr F S16384x1 .f32 → Arr F S16384x1 .f32 → Arr F S16384x1 .f32),
    unary main_v39 main_v47 (broadcastInDim S16384x1024 ![0, 1] bcast_S16384x1_S16384x1024_0_1 : Arr F S16384x1 .f32 → Arr F S16384x1024 .f32),
    binary main_v35 main_v47 main_v48 (subf : Arr F S16384x1024 .f32 → Arr F S16384x1024 .f32 → Arr F S16384x1024 .f32),
    nullary main_cst_8 (constant S_ .f32 0x3727C5AC#32),
    unary main_cst_8 main_v49 (broadcastInDim S16384x1 ![] bcast_S_S16384x1 : Arr F S_ .f32 → Arr F S16384x1 .f32),
    binary main_v46 main_v49 main_v50 (addf : Arr F S16384x1 .f32 → Arr F S16384x1 .f32 → Arr F S16384x1 .f32),
    unary main_v50 main_v51 (Host.sqrt : Arr F S16384x1 .f32 → Arr F S16384x1 .f32),
    unary main_v51 main_v52 (broadcastInDim S16384x1024 ![0, 1] bcast_S16384x1_S16384x1024_0_1 : Arr F S16384x1 .f32 → Arr F S16384x1024 .f32),
    binary main_v48 main_v52 main_v53 (Host.divf : Arr F S16384x1024 .f32 → Arr F S16384x1024 .f32 → Arr F S16384x1024 .f32),
    unary main_arg8 main_v54 (broadcastInDim S1x1024 ![1] bcast_S1024_S1x1024_1 : Arr F S1024 .f32 → Arr F S1x1024 .f32),
    unary main_v54 main_v55 (broadcastInDim S16384x1024 ![0, 1] bcast_S1x1024_S16384x1024_0_1 : Arr F S1x1024 .f32 → Arr F S16384x1024 .f32),
    binary main_v53 main_v55 main_v56 (mulf : Arr F S16384x1024 .f32 → Arr F S16384x1024 .f32 → Arr F S16384x1024 .f32),
    unary main_arg9 main_v57 (broadcastInDim S1x1024 ![1] bcast_S1024_S1x1024_1 : Arr F S1024 .f32 → Arr F S1x1024 .f32),
    unary main_v57 main_v58 (broadcastInDim S16384x1024 ![0, 1] bcast_S1x1024_S16384x1024_0_1 : Arr F S1x1024 .f32 → Arr F S16384x1024 .f32),
    binary main_v56 main_v58 main_v59 (addf : Arr F S16384x1024 .f32 → Arr F S16384x1024 .f32 → Arr F S16384x1024 .f32) ]
  ++ reluOps (.of main_v59) main_call1

/-- Stage: the spline parameters. -/
def params : Ops F :=
  [ unary main_arg10 main_v61 ((transpose S1024x383 [1, 0] · transposes_S383x1024_S1024x383_1_0) : Arr F S383x1024 .f32 → Arr F S1024x383 .f32),
    binary main_v60 main_v61 main_v62 ((fun l r => Host.dotGeneral dot_S16384x1024_S1024x383_S16384x383_1_0_0_1_n_n none l r) : Arr F S16384x1024 .f32 → Arr F S1024x383 .f32 → Arr F S16384x383 .f32),
    unary main_arg11 main_v63 (broadcastInDim S1x383 ![1] bcast_S383_S1x383_1 : Arr F S383 .f32 → Arr F S1x383 .f32),
    unary main_v63 main_v64 (broadcastInDim S16384x383 ![0, 1] bcast_S1x383_S16384x383_0_1 : Arr F S1x383 .f32 → Arr F S16384x383 .f32),
    binary main_v62 main_v64 main_v65 (addf : Arr F S16384x383 .f32 → Arr F S16384x383 .f32 → Arr F S16384x383 .f32) ]

/-- Stage: the scale and the shift. -/
def scales : Ops F :=
  [ unary main_arg12 main_v66 ((transpose S1024x1 [1, 0] · transposes_S1x1024_S1024x1_1_0) : Arr F S1x1024 .f32 → Arr F S1024x1 .f32),
    binary main_v60 main_v66 main_v67 ((fun l r => Host.dotGeneral dot_S16384x1024_S1024x1_S16384x1_1_0_0_1_n_n none l r) : Arr F S16384x1024 .f32 → Arr F S1024x1 .f32 → Arr F S16384x1 .f32),
    unary main_arg13 main_v68 (broadcastInDim S1x1 ![1] bcast_S1_S1x1_1 : Arr F S1 .f32 → Arr F S1x1 .f32),
    unary main_v68 main_v69 (broadcastInDim S16384x1 ![0, 1] bcast_S1x1_S16384x1_0_1 : Arr F S1x1 .f32 → Arr F S16384x1 .f32),
    binary main_v67 main_v69 main_v70 (addf : Arr F S16384x1 .f32 → Arr F S16384x1 .f32 → Arr F S16384x1 .f32),
    unary main_v70 main_v71 (Host.exp : Arr F S16384x1 .f32 → Arr F S16384x1 .f32),
    unary main_arg14 main_v72 ((transpose S1024x1 [1, 0] · transposes_S1x1024_S1024x1_1_0) : Arr F S1x1024 .f32 → Arr F S1024x1 .f32),
    binary main_v60 main_v72 main_v73 ((fun l r => Host.dotGeneral dot_S16384x1024_S1024x1_S16384x1_1_0_0_1_n_n none l r) : Arr F S16384x1024 .f32 → Arr F S1024x1 .f32 → Arr F S16384x1 .f32),
    unary main_arg15 main_v74 (broadcastInDim S1x1 ![1] bcast_S1_S1x1_1 : Arr F S1 .f32 → Arr F S1x1 .f32),
    unary main_v74 main_v75 (broadcastInDim S16384x1 ![0, 1] bcast_S1x1_S16384x1_0_1 : Arr F S1x1 .f32 → Arr F S16384x1 .f32),
    binary main_v73 main_v75 main_v76 (addf : Arr F S16384x1 .f32 → Arr F S16384x1 .f32 → Arr F S16384x1 .f32) ]

/-- Stage: the three groups of parameters. -/
def split : Ops F :=
  [ unary main_v65 main_v77 ((extractStridedSlice S16384x128 ![0, 0] · slices_S16384x383_S16384x128_0_0) : Arr F S16384x383 .f32 → Arr F S16384x128 .f32),
    unary main_v65 main_v78 ((extractStridedSlice S16384x128 ![0, 128] · slices_S16384x383_S16384x128_0_128) : Arr F S16384x383 .f32 → Arr F S16384x128 .f32),
    unary main_v65 main_v79 ((extractStridedSlice S16384x127 ![0, 256] · slices_S16384x383_S16384x127_0_256) : Arr F S16384x383 .f32 → Arr F S16384x127 .f32) ]

/-- Stage: the largest width parameter of a row. -/
def topW : Ops F :=
  [ nullary main_cst_9 (constant S_ .f32 0xFF800000#32),
    binary main_v77 main_cst_9 main_v80 ((fun x v => Host.reduce FloatOps.maximumf x v reducesTo_S16384x128_S16384_d1 h_S_) : Arr F S16384x128 .f32 → Arr F S_ .f32 → Arr F S16384 .f32),
    nullary main_cst_10 (constant S_ .f32 0xFF800000#32),
    unary main_cst_10 main_v81 (broadcastInDim S16384 ![] bcast_S_S16384 : Arr F S_ .f32 → Arr F S16384 .f32),
    binary main_v81 main_v80 main_v82 (maximumf : Arr F S16384 .f32 → Arr F S16384 .f32 → Arr F S16384 .f32) ]

/-- Stage: the exponentials of the width parameters. -/
def expW : Ops F :=
  [ unary main_v82 main_v83 (broadcastInDim S16384x1 ![0] bcast_S16384_S16384x1_0 : Arr F S16384 .f32 → Arr F S16384x1 .f32),
    unary main_v83 main_v84 (broadcastInDim S16384x128 ![0, 1] bcast_S16384x1_S16384x128_0_1 : Arr F S16384x1 .f32 → Arr F S16384x128 .f32),
    binary main_v77 main_v84 main_v85 (subf : Arr F S16384x128 .f32 → Arr F S16384x128 .f32 → Arr F S16384x128 .f32),
    unary main_v85 main_v86 (Host.exp : Arr F S16384x128 .f32 → Arr F S16384x128 .f32) ]

/-- Stage: the bin widths. -/
def softW : Ops F :=
  [ nullary main_cst_11 (constant S_ .f32 0x00000000#32),
    binary main_v86 main_cst_11 main_v87 ((fun x v => Host.reduceAdd x v reducesTo_S16384x128_S16384_d1 h_S_) : Arr F S16384x128 .f32 → Arr F S_ .f32 → Arr F S16384 .f32),
    unary main_v87 main_v88 (broadcastInDim S16384x1 ![0] bcast_S16384_S16384x1_0 : Arr F S16384 .f32 → Arr F S16384x1 .f32),
    unary main_v88 main_v89 (broadcastInDim S16384x128 ![0, 1] bcast_S16384x1_S16384x128_0_1 : Arr F S16384x1 .f32 → Arr F S16384x128 .f32),
    binary main_v86 main_v89 main_v90 (Host.divf : Arr F S16384x128 .f32 → Arr F S16384x128 .f32 → Arr F S16384x128 .f32),
    nullary main_cst_12 (constant S_ .f32 0x3F5F3B64#32),
    unary main_cst_12 main_v91 (broadcastInDim S16384x128 ![] bcast_S_S16384x128 : Arr F S_ .f32 → Arr F S16384x128 .f32),
    binary main_v91 main_v90 main_v92 (mulf : Arr F S16384x128 .f32 → Arr F S16384x128 .f32 → Arr F S16384x128 .f32),
    nullary main_cst_13 (constant S_ .f32 0x3A83126F#32),
    unary main_cst_13 main_v93 (broadcastInDim S16384x128 ![] bcast_S_S16384x128 : Arr F S_ .f32 → Arr F S16384x128 .f32),
    binary main_v93 main_v92 main_v94 (addf : Arr F S16384x128 .f32 → Arr F S16384x128 .f32 → Arr F S16384x128 .f32) ]

/-- Stage: the largest height parameter of a row. -/
def topH : Ops F :=
  [ nullary main_cst_14 (constant S_ .f32 0xFF800000#32),
    binary main_v78 main_cst_14 main_v95 ((fun x v => Host.reduce FloatOps.maximumf x v reducesTo_S16384x128_S16384_d1 h_S_) : Arr F S16384x128 .f32 → Arr F S_ .f32 → Arr F S16384 .f32),
    nullary main_cst_15 (constant S_ .f32 0xFF800000#32),
    unary main_cst_15 main_v96 (broadcastInDim S16384 ![] bcast_S_S16384 : Arr F S_ .f32 → Arr F S16384 .f32),
    binary main_v96 main_v95 main_v97 (maximumf : Arr F S16384 .f32 → Arr F S16384 .f32 → Arr F S16384 .f32) ]

/-- Stage: the exponentials of the height parameters. -/
def expH : Ops F :=
  [ unary main_v97 main_v98 (broadcastInDim S16384x1 ![0] bcast_S16384_S16384x1_0 : Arr F S16384 .f32 → Arr F S16384x1 .f32),
    unary main_v98 main_v99 (broadcastInDim S16384x128 ![0, 1] bcast_S16384x1_S16384x128_0_1 : Arr F S16384x1 .f32 → Arr F S16384x128 .f32),
    binary main_v78 main_v99 main_v100 (subf : Arr F S16384x128 .f32 → Arr F S16384x128 .f32 → Arr F S16384x128 .f32),
    unary main_v100 main_v101 (Host.exp : Arr F S16384x128 .f32 → Arr F S16384x128 .f32) ]

/-- Stage: the bin heights. -/
def softH : Ops F :=
  [ nullary main_cst_16 (constant S_ .f32 0x00000000#32),
    binary main_v101 main_cst_16 main_v102 ((fun x v => Host.reduceAdd x v reducesTo_S16384x128_S16384_d1 h_S_) : Arr F S16384x128 .f32 → Arr F S_ .f32 → Arr F S16384 .f32),
    unary main_v102 main_v103 (broadcastInDim S16384x1 ![0] bcast_S16384_S16384x1_0 : Arr F S16384 .f32 → Arr F S16384x1 .f32),
    unary main_v103 main_v104 (broadcastInDim S16384x128 ![0, 1] bcast_S16384x1_S16384x128_0_1 : Arr F S16384x1 .f32 → Arr F S16384x128 .f32),
    binary main_v101 main_v104 main_v105 (Host.divf : Arr F S16384x128 .f32 → Arr F S16384x128 .f32 → Arr F S16384x128 .f32),
    nullary main_cst_17 (constant S_ .f32 0x3F5F3B64#32),
    unary main_cst_17 main_v106 (broadcastInDim S16384x128 ![] bcast_S_S16384x128 : Arr F S_ .f32 → Arr F S16384x128 .f32),
    binary main_v106 main_v105 main_v107 (mulf : Arr F S16384x128 .f32 → Arr F S16384x128 .f32 → Arr F S16384x128 .f32),
    nullary main_cst_18 (constant S_ .f32 0x3A83126F#32),
    unary main_cst_18 main_v108 (broadcastInDim S16384x128 ![] bcast_S_S16384x128 : Arr F S_ .f32 → Arr F S16384x128 .f32),
    binary main_v108 main_v107 main_v109 (addf : Arr F S16384x128 .f32 → Arr F S16384x128 .f32 → Arr F S16384x128 .f32) ]

/-- Stage: the softplus of the slope parameters. -/
def soft : Ops F :=
  softplusOps (.of main_v79) main_call2

/-- Stage: the inner slopes and the outer slope. -/
def ends : Ops F :=
  [ nullary main_cst_19 (constant S_ .f32 0x3A83126F#32),
    unary main_cst_19 main_v111 (broadcastInDim S16384x127 ![] bcast_S_S16384x127 : Arr F S_ .f32 → Arr F S16384x127 .f32),
    binary main_v111 main_v110 main_v112 (addf : Arr F S16384x127 .f32 → Arr F S16384x127 .f32 → Arr F S16384x127 .f32),
    nullary main_cst_20 (constant S_ .f32 0x3F0A2C8F#32),
    unary main_cst_20 main_v113 (broadcastInDim S16384x1 ![] bcast_S_S16384x1 : Arr F S_ .f32 → Arr F S16384x1 .f32) ]

/-- Stage: the knot slopes. -/
def slopes : Ops F :=
  [ nary ![main_v113, main_v112, main_v113] main_v114 (fun u => (concatenate S16384x129 1 [⟨S16384x1, (u 0 : Arr F S16384x1 .f32)⟩, ⟨S16384x127, (u 1 : Arr F S16384x127 .f32)⟩, ⟨S16384x1, (u 2 : Arr F S16384x1 .f32)⟩] concatenates_S16384x1_S16384x127_S16384x1_S16384x129_d1 : Arr F S16384x129 .f32)) ]

/-- Stage: the running sums of the widths. -/
def sumW : Ops F :=
  [ nullary main_cst_21 (constant S_ .f32 0x00000000#32),
    unary main_cst_21 main_v115 (broadcastInDim S16384x1 ![] bcast_S_S16384x1 : Arr F S_ .f32 → Arr F S16384x1 .f32) ]
  ++ cumsumOps (.of main_v94) main_call3.call0

/-- Stage: the knots across, their last not yet set. -/
def padW : Ops F :=
  [ binary main_v115 main_v116 main_v117 ((fun a b => concatenate S16384x129 1 [⟨S16384x1, a⟩, ⟨S16384x128, b⟩] concatenates_S16384x1_S16384x128_S16384x129_d1) : Arr F S16384x1 .f32 → Arr F S16384x128 .f32 → Arr F S16384x129 .f32) ]

/-- Stage: the knots across. -/
def knotsW : Ops F :=
  [ nullary main_c (constantI S_ 32 128#32),
    unary main_c main_v118 (broadcastInDim S1 ![] bcast_S_S1 : Arr F S_ .i32 → Arr F S1 .i32),
    nullary main_cst_22 (constant S_ .f32 0x3F800000#32),
    unary main_cst_22 main_v119 (broadcastInDim S16384 ![] bcast_S_S16384 : Arr F S_ .f32 → Arr F S16384 .f32),
    ternary main_v117 main_v118 main_v119 main_v120 ((fun x i u => Host.scatter scatter_S16384x129_S1_S16384_0_1_1_0 (fun _ b => b) x i u) : Arr F S16384x129 .f32 → Arr F S1 .i32 → Arr F S16384 .f32 → Arr F S16384x129 .f32) ]

/-- Stage: the widths between the knots. -/
def widths : Ops F :=
  [ unary main_v120 main_v121 ((extractStridedSlice S16384x128 ![0, 1] · slices_S16384x129_S16384x128_0_1) : Arr F S16384x129 .f32 → Arr F S16384x128 .f32),
    unary main_v120 main_v122 ((extractStridedSlice S16384x128 ![0, 0] · slices_S16384x129_S16384x128_0_0) : Arr F S16384x129 .f32 → Arr F S16384x128 .f32),
    binary main_v121 main_v122 main_v123 (subf : Arr F S16384x128 .f32 → Arr F S16384x128 .f32 → Arr F S16384x128 .f32) ]

/-- Stage: the running sums of the heights. -/
def sumH : Ops F :=
  cumsumOps (.of main_v109) main_call4.call0

/-- Stage: the knots up, not scaled. -/
def padH : Ops F :=
  [ binary main_v115 main_v124 main_v125 ((fun a b => concatenate S16384x129 1 [⟨S16384x1, a⟩, ⟨S16384x128, b⟩] concatenates_S16384x1_S16384x128_S16384x129_d1) : Arr F S16384x1 .f32 → Arr F S16384x128 .f32 → Arr F S16384x129 .f32) ]

/-- Stage: the knots up. -/
def knotsH : Ops F :=
  [ unary main_v71 main_v126 (broadcastInDim S16384x129 ![0, 1] bcast_S16384x1_S16384x129_0_1 : Arr F S16384x1 .f32 → Arr F S16384x129 .f32),
    binary main_v126 main_v125 main_v127 (mulf : Arr F S16384x129 .f32 → Arr F S16384x129 .f32 → Arr F S16384x129 .f32),
    unary main_v76 main_v128 (broadcastInDim S16384x129 ![0, 1] bcast_S16384x1_S16384x129_0_1 : Arr F S16384x1 .f32 → Arr F S16384x129 .f32),
    binary main_v127 main_v128 main_v129 (addf : Arr F S16384x129 .f32 → Arr F S16384x129 .f32 → Arr F S16384x129 .f32) ]

/-- Stage: the heights between the knots. -/
def heights : Ops F :=
  [ unary main_v129 main_v130 ((extractStridedSlice S16384x128 ![0, 1] · slices_S16384x129_S16384x128_0_1) : Arr F S16384x129 .f32 → Arr F S16384x128 .f32),
    unary main_v129 main_v131 ((extractStridedSlice S16384x128 ![0, 0] · slices_S16384x129_S16384x128_0_0) : Arr F S16384x129 .f32 → Arr F S16384x128 .f32),
    binary main_v130 main_v131 main_v132 (subf : Arr F S16384x128 .f32 → Arr F S16384x128 .f32 → Arr F S16384x128 .f32) ]

/-- Stage: the quantile midpoints. -/
def taus : Ops F :=
  [ nullary main_v133 (sitofp .f32 (iotaInDim S128 32 0)),
    nullary main_cst_23 (constant S_ .f32 0x3F000000#32),
    unary main_cst_23 main_v134 (broadcastInDim S128 ![] bcast_S_S128 : Arr F S_ .f32 → Arr F S128 .f32),
    binary main_v133 main_v134 main_v135 (addf : Arr F S128 .f32 → Arr F S128 .f32 → Arr F S128 .f32),
    nullary main_cst_24 (constant S_ .f32 0x43000000#32),
    unary main_cst_24 main_v136 (broadcastInDim S128 ![] bcast_S_S128 : Arr F S_ .f32 → Arr F S128 .f32),
    binary main_v135 main_v136 main_v137 (Host.divf : Arr F S128 .f32 → Arr F S128 .f32 → Arr F S128 .f32) ]

/-- Stage: the bin of each midpoint. -/
def bins : Ops F :=
  [ unary main_v137 main_v138 (broadcastInDim S1x128x1 ![1] bcast_S128_S1x128x1_1 : Arr F S128 .f32 → Arr F S1x128x1 .f32),
    unary main_v120 main_v139 (broadcastInDim S16384x1x129 ![0, 2] bcast_S16384x129_S16384x1x129_0_2 : Arr F S16384x129 .f32 → Arr F S16384x1x129 .f32),
    unary main_v138 main_v140 (broadcastInDim S16384x128x129 ![0, 1, 2] bcast_S1x128x1_S16384x128x129_0_1_2 : Arr F S1x128x1 .f32 → Arr F S16384x128x129 .f32),
    unary main_v139 main_v141 (broadcastInDim S16384x128x129 ![0, 1, 2] bcast_S16384x1x129_S16384x128x129_0_1_2 : Arr F S16384x1x129 .f32 → Arr F S16384x128x129 .f32),
    binary main_v140 main_v141 main_v142 (cmpf .oge : Arr F S16384x128x129 .f32 → Arr F S16384x128x129 .f32 → Arr F S16384x128x129 .i1),
    unary main_v142 main_v143 ((extui 32 · natLt_1_32) : Arr F S16384x128x129 .i1 → Arr F S16384x128x129 .i32),
    nullary main_c_25 (constantI S_ 32 0#32),
    binary main_v143 main_c_25 main_v144 ((fun x v => Host.reduce IntOp.addi x v reducesTo_S16384x128x129_S16384x128_d2 h_S_) : Arr F S16384x128x129 .i32 → Arr F S_ .i32 → Arr F S16384x128 .i32),
    nullary main_c_26 (constantI S_ 32 1#32),
    unary main_c_26 main_v145 (broadcastInDim S16384x128 ![] bcast_S_S16384x128 : Arr F S_ .i32 → Arr F S16384x128 .i32),
    binary main_v144 main_v145 main_v146 (subi : Arr F S16384x128 .i32 → Arr F S16384x128 .i32 → Arr F S16384x128 .i32) ]

/-- Stage: the left knot across. -/
def take5 : Ops F :=
  takeOps (.of main_v120) (.of main_v146) main_call5

/-- Stage: the width of the bin. -/
def take6 : Ops F :=
  takeOps1 (.of main_v123) (.of main_v146) main_call6

/-- Stage: the left knot up. -/
def take7 : Ops F :=
  takeOps (.of main_v129) (.of main_v146) main_call7

/-- Stage: the height of the bin. -/
def take8 : Ops F :=
  takeOps1 (.of main_v132) (.of main_v146) main_call8

/-- Stage: the mean slopes. -/
def ratio : Ops F :=
  [ binary main_v132 main_v123 main_v151 (Host.divf : Arr F S16384x128 .f32 → Arr F S16384x128 .f32 → Arr F S16384x128 .f32) ]

/-- Stage: the mean slope of the bin. -/
def take9 : Ops F :=
  takeOps1 (.of main_v151) (.of main_v146) main_call9

/-- Stage: the slope at the left knot. -/
def take10 : Ops F :=
  takeOps (.of main_v114) (.of main_v146) main_call10

/-- Stage: the slopes without the first. -/
def right : Ops F :=
  [ unary main_v114 main_v154 ((extractStridedSlice S16384x128 ![0, 1] · slices_S16384x129_S16384x128_0_1) : Arr F S16384x129 .f32 → Arr F S16384x128 .f32) ]

/-- Stage: the slope at the right knot. -/
def take11 : Ops F :=
  takeOps1 (.of main_v154) (.of main_v146) main_call11

/-- Stage: the spline at each midpoint. -/
def spline : Ops F :=
  [ unary main_v137 main_v156 (broadcastInDim S1x128 ![1] bcast_S128_S1x128_1 : Arr F S128 .f32 → Arr F S1x128 .f32),
    unary main_v156 main_v157 (broadcastInDim S16384x128 ![0, 1] bcast_S1x128_S16384x128_0_1 : Arr F S1x128 .f32 → Arr F S16384x128 .f32),
    binary main_v157 main_v147 main_v158 (subf : Arr F S16384x128 .f32 → Arr F S16384x128 .f32 → Arr F S16384x128 .f32),
    binary main_v158 main_v148 main_v159 (Host.divf : Arr F S16384x128 .f32 → Arr F S16384x128 .f32 → Arr F S16384x128 .f32),
    nullary main_cst_27 (constant S_ .f32 0x3F800000#32),
    unary main_cst_27 main_v160 (broadcastInDim S16384x128 ![] bcast_S_S16384x128 : Arr F S_ .f32 → Arr F S16384x128 .f32),
    binary main_v160 main_v159 main_v161 (subf : Arr F S16384x128 .f32 → Arr F S16384x128 .f32 → Arr F S16384x128 .f32),
    binary main_v159 main_v161 main_v162 (mulf : Arr F S16384x128 .f32 → Arr F S16384x128 .f32 → Arr F S16384x128 .f32),
    binary main_v159 main_v159 main_v163 (mulf : Arr F S16384x128 .f32 → Arr F S16384x128 .f32 → Arr F S16384x128 .f32),
    binary main_v152 main_v163 main_v164 (mulf : Arr F S16384x128 .f32 → Arr F S16384x128 .f32 → Arr F S16384x128 .f32),
    binary main_v153 main_v162 main_v165 (mulf : Arr F S16384x128 .f32 → Arr F S16384x128 .f32 → Arr F S16384x128 .f32),
    binary main_v164 main_v165 main_v166 (addf : Arr F S16384x128 .f32 → Arr F S16384x128 .f32 → Arr F S16384x128 .f32),
    binary main_v150 main_v166 main_v167 (mulf : Arr F S16384x128 .f32 → Arr F S16384x128 .f32 → Arr F S16384x128 .f32),
    binary main_v153 main_v155 main_v168 (addf : Arr F S16384x128 .f32 → Arr F S16384x128 .f32 → Arr F S16384x128 .f32),
    nullary main_cst_28 (constant S_ .f32 0x40000000#32),
    unary main_cst_28 main_v169 (broadcastInDim S16384x128 ![] bcast_S_S16384x128 : Arr F S_ .f32 → Arr F S16384x128 .f32),
    binary main_v169 main_v152 main_v170 (mulf : Arr F S16384x128 .f32 → Arr F S16384x128 .f32 → Arr F S16384x128 .f32),
    binary main_v168 main_v170 main_v171 (subf : Arr F S16384x128 .f32 → Arr F S16384x128 .f32 → Arr F S16384x128 .f32),
    binary main_v171 main_v162 main_v172 (mulf : Arr F S16384x128 .f32 → Arr F S16384x128 .f32 → Arr F S16384x128 .f32),
    binary main_v152 main_v172 main_v173 (addf : Arr F S16384x128 .f32 → Arr F S16384x128 .f32 → Arr F S16384x128 .f32),
    binary main_v167 main_v173 main_v174 (Host.divf : Arr F S16384x128 .f32 → Arr F S16384x128 .f32 → Arr F S16384x128 .f32),
    binary main_v149 main_v174 main_v175 (addf : Arr F S16384x128 .f32 → Arr F S16384x128 .f32 → Arr F S16384x128 .f32) ]

/-- The stages in order. -/
def stages : List (Ops F) :=
  [dense1, norm1, dense2, norm2, params, scales, split, topW, expW, softW, topH, expH, softH, soft, ends, slopes, sumW, padW, knotsW, widths, sumH, padH, knotsH, heights, taus, bins, take5, take6, take7, take8, ratio, take9, take10, right, take11, spline]

/-- The whole line. -/
def ops : Ops F := stages.flatten

set_option maxRecDepth 8192 in
set_option maxHeartbeats 2000000 in
/-- The reference's program is the line of its operations. -/
theorem main_isSeq (c : Dev nD) : IsSeq (main (F := F) c) ops := by
  unfold main main_part0 main_part1 main_part2 main_part3
  hlo_seq

end Cert.Ref

end
-- ==== Proof.RefRun.lean ====
/-
  The reference runs, and what its line of operations leaves in a buffer: a buffer is written in one stage only, so
  what that stage leaves there is what the whole line leaves there.
-/
module

public import proofs.«01_k».proof.Defs
public import proofs.«01_k».proof.Proof.RefOps
public import Idealize.ShloMosaic.Lib.Claim

@[expose] public section

noncomputable section

namespace Cert.Ref

open Cert.ReferenceIdeal Cert.ReferenceIdeal.Gen Idealize.ShloMosaic Idealize.ShloMosaic.TcCoe Idealize.ShloMosaic.StableHlo Idealize.SL.Sem

variable {F : FTy → Type} [FloatOps F]

/-- The buffers each stage writes, in order. -/
def written : List (List (Ref sig .tc)) :=
  [ [main_v0, main_v1, main_v2, main_v3, main_v4],
    [main_cst, main_v5, main_v6, main_cst_0, main_v7, main_v8, main_v9, main_v10, main_v11, main_cst_1, main_v12, main_v13, main_cst_2, main_v14, main_v15, main_v16, main_v17, main_cst_3, main_v18, main_v19, main_v20, main_v21, main_v22, main_v23, main_v24, main_v25, main_v26, main_v27, main_v28, main_call0_cst, main_call0_v0, main_v29],
    [main_v30, main_v31, main_v32, main_v33, main_v34, main_v35],
    [main_cst_4, main_v36, main_v37, main_cst_5, main_v38, main_v39, main_v40, main_v41, main_v42, main_cst_6, main_v43, main_v44, main_cst_7, main_v45, main_v46, main_v47, main_v48, main_cst_8, main_v49, main_v50, main_v51, main_v52, main_v53, main_v54, main_v55, main_v56, main_v57, main_v58, main_v59, main_call1_cst, main_call1_v0, main_v60],
    [main_v61, main_v62, main_v63, main_v64, main_v65],
    [main_v66, main_v67, main_v68, main_v69, main_v70, main_v71, main_v72, main_v73, main_v74, main_v75, main_v76],
    [main_v77, main_v78, main_v79],
    [main_cst_9, main_v80, main_cst_10, main_v81, main_v82],
    [main_v83, main_v84, main_v85, main_v86],
    [main_cst_11, main_v87, main_v88, main_v89, main_v90, main_cst_12, main_v91, main_v92, main_cst_13, main_v93, main_v94],
    [main_cst_14, main_v95, main_cst_15, main_v96, main_v97],
    [main_v98, main_v99, main_v100, main_v101],
    [main_cst_16, main_v102, main_v103, main_v104, main_v105, main_cst_17, main_v106, main_v107, main_cst_18, main_v108, main_v109],
    [main_call2_cst, main_call2_v0, main_call2_v1, main_call2_v2, main_call2_v3, main_call2_v4, main_call2_v5, main_call2_v6, main_call2_v7, main_call2_v8, main_call2_v9, main_call2_v10, main_call2_v11, main_v110],
    [main_cst_19, main_v111, main_v112, main_cst_20, main_v113],
    [main_v114],
    [main_cst_21, main_v115, main_call3_call0_cst, main_call3_call0_v0, main_v116],
    [main_v117],
    [main_c, main_v118, main_cst_22, main_v119, main_v120],
    [main_v121, main_v122, main_v123],
    [main_call4_call0_cst, main_call4_call0_v0, main_v124],
    [main_v125],
    [main_v126, main_v127, main_v128, main_v129],
    [main_v130, main_v131, main_v132],
    [main_v133, main_cst_23, main_v134, main_v135, main_cst_24, main_v136, main_v137],
    [main_v138, main_v139, main_v140, main_v141, main_v142, main_v143, main_c_25, main_v144, main_c_26, main_v145, main_v146],
    [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v147],
    [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v148],
    [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v149],
    [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v150],
    [main_v151],
    [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v152],
    [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v153],
    [main_v154],
    [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v155],
    [main_v156, main_v157, main_v158, main_v159, main_cst_27, main_v160, main_v161, main_v162, main_v163, main_v164, main_v165, main_v166, main_v167, main_v168, main_cst_28, main_v169, main_v170, main_v171, main_v172, main_v173, main_v174, main_v175] ]

set_option maxRecDepth 16384 in
/-- Each stage writes just those buffers. -/
theorem stages_written : (stages (F := F)).map (fun s => s.map HloOp.writes)
    = written.map fun w => w.map fun r => {Proc.devRef (τ := τ) .tc r} := rfl

/-- Stages that write the buffers `W` leave a buffer not in `W` as it was. -/
theorem after_flatten_keep {ss : List (Ops F)} {W : List (List (Ref sig .tc))}
    (h : ss.map (fun s => s.map HloOp.writes) = W.map fun w => w.map fun r => {Proc.devRef (τ := τ) .tc r})
    (V : Valuation τ sig (Elt F)) {r : Ref sig .tc} (hr : r ∉ W.flatten) :
    after ss.flatten V (Proc.devRef .tc r) = V (Proc.devRef .tc r) := by
  refine after_unwritten W.flatten ?_ hr V
  have e := congrArg List.flatten h
  rw [List.map_flatten, List.map_flatten]
  exact e

/-- What the buffers hold after the first `k` stages. -/
def upTo (k : ℕ) (V : Valuation τ sig (Elt F)) : Valuation τ sig (Elt F) := after (stages.take k).flatten V

/-- What the buffers hold in the end. -/
def fin (V : Valuation τ sig (Elt F)) : Valuation τ sig (Elt F) := after ops V

/-- A buffer that no stage from the `k`-th on writes holds after `k` stages what it holds in the end. -/
theorem upTo_eq_fin (k : ℕ) (V : Valuation τ sig (Elt F)) (r : Ref sig .tc) (hr : r ∉ (written.drop k).flatten) :
    upTo k V (no_index (Proc.devRef .tc r)) = fin V (Proc.devRef .tc r) := by
  have e : (ops : Ops F) = (stages.take k).flatten ++ (stages.drop k).flatten := by
    rw [← List.flatten_append, List.take_append_drop]; rfl
  have h := congrArg (List.drop k) (stages_written (F := F))
  rw [← List.map_drop, ← List.map_drop] at h
  rw [fin, e, after_append, after_flatten_keep h _ hr, upTo]

/-- What a stage leaves, from what the stages before it left. -/
theorem upTo_succ (k : ℕ) (V : Valuation τ sig (Elt F)) (s : Ops F) (hs : stages[k]? = some s) :
    upTo (k + 1) V = after s (upTo k V) := by
  rw [upTo, List.take_add_one, hs, List.flatten_append, after_append, upTo]
  simp

/-- An argument is never written. -/
theorem fin_arg (V : Valuation τ sig (Elt F)) (r : Ref sig .tc) (hr : r ∉ written.flatten) :
    fin V (Proc.devRef .tc r) = V (Proc.devRef .tc r) :=
  (upTo_eq_fin 0 V r hr).symm

set_option maxRecDepth 8192 in
/-- The operations touch the device's own buffers only. -/
theorem ops_sub : (ops : Ops F).Forall fun op => op.bufs ⊆ tcRefs τ sig := by
  simp [ops, stages, dense1, norm1, dense2, norm2, params, scales, split, topW, expW, softW, topH, expH, softH, soft, ends, slopes, sumW, padW, knotsW, widths, sumH, padH, knotsH, heights, taus, bins, take5, take6, take7, take8, ratio, take9, take10, right, take11, spline,
    reluOps, softplusOps, cumsumOps, takeOps, takeOps1, TRef.nullary, TRef.unary, TRef.binary, TRef.ternary, TRef.reshape]

set_option maxRecDepth 8192 in
/-- No operation makes a buffer. -/
theorem ops_fresh : ∀ op ∈ (ops : Ops F), op.fresh = ∅ :=
  List.forall_iff_forall_mem.mp (forall_fresh_of_map (ops := ops) rfl)

/-- The reference runs to the contents its operations leave. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin (launchContents m d) (Proc.devRef .tc b) :=
  run_hlo defs main main_isSeq (by decide) (by decide) ops_sub ops_fresh m ρ

end Cert.Ref

end
-- ==== Proof.Entry.lean ====
module

public import proofs.«01_k».proof.Proof.Gen.KernelIdeal.Frame
public import Idealize.ShloMosaic.Lib.StableHlo.RunRead
public import Idealize.ShloMosaic.Lib.Pipeline.ValueKit
public import Idealize.ShloMosaic.Lib.Pointwise
public import Idealize.ShloMosaic.Lib.Pointwise.Index

/-!
# What the kernel is launched on

The kernel's set-up transposes, joins and fills up with zeros the arrays it is called with.  Here each
array the launch reads is given entry by entry in terms of the arguments.
-/

@[expose] public section
set_option maxRecDepth 16384
noncomputable section

namespace Cert.Entry
open Cert.KernelIdeal Cert.KernelIdeal.Gen Idealize.ShloMosaic Idealize.ShloMosaic.TcCoe Idealize.SL.Sem

variable (m : (ℓ : Loc nD τ sig) → Buf (Elt Ideal) ℓ) (c : Dev nD)

/-- The inputs. -/
def K0 (i : Fin 16384) (j : Fin 256) : EReal := (m ((c : Thread nD τ).loc main_arg0) : FVec Ideal S16384x256 .f32) (ix2 i j)

/-- The actions. -/
def K1 (i : Fin 16384) (j : Fin 16) : EReal := (m ((c : Thread nD τ).loc main_arg1) : FVec Ideal S16384x16 .f32) (ix2 i j)

/-- The first layer's weights. -/
def K2 (i : Fin 1024) (j : Fin 256) : EReal := (m ((c : Thread nD τ).loc main_arg2) : FVec Ideal S1024x256 .f32) (ix2 i j)

/-- The first layer's shifts. -/
def K3 (i : Fin 1024) : EReal := (m ((c : Thread nD τ).loc main_arg3) : FVec Ideal S1024 .f32) (ix1 i)

/-- The first normalisation's factors. -/
def K4 (i : Fin 1024) : EReal := (m ((c : Thread nD τ).loc main_arg4) : FVec Ideal S1024 .f32) (ix1 i)

/-- The first normalisation's shifts. -/
def K5 (i : Fin 1024) : EReal := (m ((c : Thread nD τ).loc main_arg5) : FVec Ideal S1024 .f32) (ix1 i)

/-- The second layer's weights. -/
def K6 (i : Fin 1024) (j : Fin 1040) : EReal := (m ((c : Thread nD τ).loc main_arg6) : FVec Ideal S1024x1040 .f32) (ix2 i j)

/-- The second layer's shifts. -/
def K7 (i : Fin 1024) : EReal := (m ((c : Thread nD τ).loc main_arg7) : FVec Ideal S1024 .f32) (ix1 i)

/-- The second normalisation's factors. -/
def K8 (i : Fin 1024) : EReal := (m ((c : Thread nD τ).loc main_arg8) : FVec Ideal S1024 .f32) (ix1 i)

/-- The second normalisation's shifts. -/
def K9 (i : Fin 1024) : EReal := (m ((c : Thread nD τ).loc main_arg9) : FVec Ideal S1024 .f32) (ix1 i)

/-- The last layer's weights. -/
def K10 (i : Fin 383) (j : Fin 1024) : EReal := (m ((c : Thread nD τ).loc main_arg10) : FVec Ideal S383x1024 .f32) (ix2 i j)

/-- The last layer's shifts. -/
def K11 (i : Fin 383) : EReal := (m ((c : Thread nD τ).loc main_arg11) : FVec Ideal S383 .f32) (ix1 i)

/-- The scale's weights. -/
def K12 (i : Fin 1) (j : Fin 1024) : EReal := (m ((c : Thread nD τ).loc main_arg12) : FVec Ideal S1x1024 .f32) (ix2 i j)

/-- The scale's shift. -/
def K13 (i : Fin 1) : EReal := (m ((c : Thread nD τ).loc main_arg13) : FVec Ideal S1 .f32) (ix1 i)

/-- The offset's weights. -/
def K14 (i : Fin 1) (j : Fin 1024) : EReal := (m ((c : Thread nD τ).loc main_arg14) : FVec Ideal S1x1024 .f32) (ix2 i j)

/-- The offset's shift. -/
def K15 (i : Fin 1) : EReal := (m ((c : Thread nD τ).loc main_arg15) : FVec Ideal S1 .f32) (ix1 i)

/-- The number zero, converted to a float. -/
theorem zero_word : (FloatOps.sitofp (F := Ideal) .f32 (0#32 : BitVec 32) : EReal) = 0 := by
  show (((0#32 : BitVec 32).toInt : ℝ) : EReal) = 0
  simp

/-- The inputs come as they are. -/
theorem x_at (i : Fin 16384) (j : Fin 256) : ((V m c main_v28 : FVec Ideal S16384x256 .bf16) (ix2 i j) : EReal) = K0 m c i j := by
  simp only [V, List.flatten_cons, List.flatten_nil, List.append_nil, List.cons_append, List.nil_append]
  after_reads_simp
  pointwise [K0]

/-- The first layer's weights come transposed. -/
theorem w1_at (i : Fin 256) (j : Fin 1024) : ((V m c main_v1 : FVec Ideal S256x1024 .bf16) (ix2 i j) : EReal) = K2 m c j i := by
  simp only [V, List.flatten_cons, List.flatten_nil, List.append_nil, List.cons_append, List.nil_append]
  after_reads_simp
  pointwise [K2]

/-- The first layer's shifts come as a row. -/
theorem b1_at (i : Fin 1) (j : Fin 1024) : ((V m c main_v25 : FVec Ideal S1x1024 .bf16) (ix2 i j) : EReal) = K3 m c j := by
  simp only [V, List.flatten_cons, List.flatten_nil, List.append_nil, List.cons_append, List.nil_append]
  after_reads_simp
  pointwise [K3]

/-- The second layer's shifts come as a row. -/
theorem b2_at (i : Fin 1) (j : Fin 1024) : ((V m c main_v27 : FVec Ideal S1x1024 .bf16) (ix2 i j) : EReal) = K7 m c j := by
  simp only [V, List.flatten_cons, List.flatten_nil, List.append_nil, List.cons_append, List.nil_append]
  after_reads_simp
  pointwise [K7]

/-- The actions come filled up with zeros. -/
theorem a_at (i : Fin 16384) (j : Fin 128) : ((V m c main_v10 : FVec Ideal S16384x128 .bf16) (ix2 i j) : EReal) = if h : j.val < 16 then K1 m c i ⟨j.val, h⟩ else 0 := by
  simp only [V, List.flatten_cons, List.flatten_nil, List.append_nil, List.cons_append, List.nil_append]
  after_reads_simp
  simp -implicitDefEqProofs only [StableHlo.TRef.toBuf, StableHlo.TRef.ofBuf, cast_cast, cast_eq]
  pointwise [K1]
  rw [zero_word]
/-- The second layer's weights come transposed and filled up with zeros. -/
theorem w2_at (i : Fin 1152) (j : Fin 1024) : ((V m c main_v8 : FVec Ideal S1152x1024 .bf16) (ix2 i j) : EReal) = if h : i.val < 1040 then K6 m c j ⟨i.val, h⟩ else 0 := by
  simp only [V, List.flatten_cons, List.flatten_nil, List.append_nil, List.cons_append, List.nil_append]
  after_reads_simp
  pointwise [K6]
  after_reads_simp
  simp -implicitDefEqProofs only [StableHlo.TRef.toBuf, StableHlo.TRef.ofBuf, cast_cast, cast_eq]
  pointwise
  by_cases h : i.val < 1024
  · rw [dif_pos h, dif_pos (by omega)]
  · by_cases h' : i.val < 1040
    · rw [dif_neg h, dif_pos (by omega), dif_pos h']
      exact congrArg (fun k => (m ((c : Thread nD τ).loc main_arg6) : FVec Ideal S1024x1040 .f32) (ix2 j k)) (Fin.ext (by simp only; omega))
    · rw [dif_neg h, dif_neg (by omega), dif_neg h', zero_word]
/-- The last layer's weights come side by side. -/
theorem wc_at (i : Fin 1024) (j : Fin 640) : ((V m c main_v18 : FVec Ideal S1024x640 .bf16) (ix2 i j) : EReal) = if h : j.val < 383 then K10 m c ⟨j.val, h⟩ i else if j.val < 384 then 0 else if j.val < 512 then K12 m c 0 i else K14 m c 0 i := by
  simp only [V, List.flatten_cons, List.flatten_nil, List.append_nil, List.cons_append, List.nil_append]
  after_reads_simp
  pointwise [K10, K12, K14]
  after_reads_simp
  pointwise
  by_cases h : j.val < 383
  · rw [dif_pos h, dif_pos h]
    try rfl
  · by_cases h' : j.val < 384
    · rw [dif_neg h, dif_pos (by omega), dif_neg h, if_pos h']
    · by_cases h'' : j.val < 512
      · rw [dif_neg h, dif_neg (by omega), dif_pos (by omega), dif_neg h, if_neg h', if_pos h'']
        try rfl
      · rw [dif_neg h, dif_neg (by omega), dif_neg (by omega), dif_neg h, if_neg h', if_neg h'']
        try rfl
/-- The last layer's shifts come side by side. -/
theorem bc_at (i : Fin 1) (j : Fin 640) : ((V m c main_v23 : FVec Ideal S1x640 .f32) (ix2 i j) : EReal) = if h : j.val < 383 then K11 m c ⟨j.val, h⟩ else if j.val < 384 then 0 else if j.val < 512 then K13 m c 0 else K15 m c 0 := by
  simp only [V, List.flatten_cons, List.flatten_nil, List.append_nil, List.cons_append, List.nil_append]
  after_reads_simp
  pointwise [K11, K13, K15]
  after_reads_simp
  pointwise
  by_cases h : j.val < 383
  · rw [dif_pos h, dif_pos h]
    try rfl
  · by_cases h' : j.val < 384
    · rw [dif_neg h, dif_pos (by omega), dif_neg h, if_pos h']
    · by_cases h'' : j.val < 512
      · rw [dif_neg h, dif_neg (by omega), dif_pos (by omega), dif_neg h, if_neg h', if_pos h'']
        try rfl
      · rw [dif_neg h, dif_neg (by omega), dif_neg (by omega), dif_neg h, if_neg h', if_neg h'']
        try rfl
end Cert.Entry
-- ==== Proof.Half.lean ====
module
public import proofs.«01_k».proof.Proof.Gen.KernelIdeal.Frame
@[expose] public section
set_option maxRecDepth 16384
noncomputable section
namespace Cert.Half
open Cert.KernelIdeal Cert.KernelIdeal.Gen Idealize.ShloMosaic

variable {F : FTy → Type} [FloatOps F]

/-- The 256×128 array holding its own column number. -/
def lane : IVec S256x128 32 := iota .tc S256x128 32 [1] iota_S256x128_d1_w32

/-- The place of each quantile, `(j + 1/2) / 128`. -/
def tau : FVec F S256x128 .f32 := k0_pay3

/-- The mean of each row, held in every one of 128 columns. -/
def rowMean (h : FVec F S256x1024 .bf16) : FVec F S256x128 .f32 :=
  mulf (matmul dot_S256x1024_S1024x128_S256x128_1_0_0_1_n_n none h k0_pay6 (constant S256x128 .f32 0x00000000#32))
    (broadcast S256x128 (Scalar.ofBits .f32 0x3A800000#32))

/-- One over the standard deviation of each row, from the mean and the mean of the squares. -/
def rowScale (mu ex2 : FVec F S256x128 .f32) : FVec F S256x128 .f32 :=
  rsqrt (addf (subf ex2 (mulf mu mu)) (broadcast S256x128 (Scalar.ofBits .f32 0x3727C5AC#32)))

/-- A 128-column array repeated eight times side by side, rounded to the narrow format. -/
def wide (v : FVec F S256x128 .f32) : FVec F S256x1024 .bf16 :=
  let n := truncf .bf16 v bitsLt_bf16_f32
  concatenate S256x1024 1 [⟨S256x128, n⟩, ⟨S256x128, n⟩, ⟨S256x128, n⟩, ⟨S256x128, n⟩, ⟨S256x128, n⟩, ⟨S256x128, n⟩, ⟨S256x128, n⟩, ⟨S256x128, n⟩] concatenates_S256x128_S256x128_S256x128_S256x128_S256x128_S256x128_S256x128_S256x128_S256x1024_d1

/-- The last step of a normalisation: scale, shift, and cut off at zero. -/
def cut (h : FVec F S256x1024 .bf16) (mu s : FVec F S256x128 .f32) : FVec F S256x1024 .bf16 :=
  maximumf (subf (mulf h (wide s)) (wide (mulf mu s))) (broadcast S256x1024 (Scalar.ofBits .bf16 0x0000#16))

/-- A hidden layer's normalisation, cut off at zero. -/
def normed (h : FVec F S256x1024 .bf16) : FVec F S256x1024 .bf16 :=
  cut h (rowMean h) (rowScale (rowMean h) (rowMean (mulf h h)))

/-- The second layer before its normalisation. -/
def layer2 (x1 : FVec F S256x1024 .bf16) (a : Vec F S256x128 .bf16) (w2 : Vec F S1152x1024 .bf16)
    (b2 : Vec F S1x1024 .bf16) : FVec F S256x1024 .bf16 :=
  addf (truncf .bf16 (matmul dot_S256x1152_S1152x1024_S256x1024_1_0_0_1_n_n none
      (concatenate S256x1152 1 [⟨S256x1024, x1⟩, ⟨S256x128, shapeCast S256x128 a shapeCasts_S256x128_S256x128⟩] concatenates_S256x1024_S256x128_S256x1152_d1)
      (shapeCast S1152x1024 w2 shapeCasts_S1152x1024_S1152x1024) (constant S256x1024 .f32 0x00000000#32)) bitsLt_bf16_f32)
    (broadcastTo S256x1024 (shapeCast S1x1024 b2 shapeCasts_S1x1024_S1x1024) broadcasts_S1x1024_S256x1024)

/-- The two hidden layers. -/
def trunk (x : Vec F S256x256 .bf16) (a : Vec F S256x128 .bf16) (w1 : Vec F S256x1024 .bf16) (b1 : Vec F S1x1024 .bf16)
    (w2 : Vec F S1152x1024 .bf16) (b2 : Vec F S1x1024 .bf16) : FVec F S256x1024 .bf16 :=
  normed (layer2 (normed (k0_pay8 x w1 b1)) a w2 b2)

/-- The five groups of 128 numbers the last layer gives. -/
def logits (t : FVec F S256x1024 .bf16) (wc : Vec F S1024x640 .bf16) (bc : Vec F S1x640 .f32) : FVec F S256x640 .f32 :=
  k0_pay14 t (k0_pay13 wc) bc

/-- Sums of the exponentials of a group: columns `j < 128` up to `j`, the others of the whole row. -/
def sums (g : FVec F S256x128 .f32) : FVec F S256x256 .f32 :=
  matmul dot_S256x128_S128x256_S256x256_1_0_0_1_n_n none (truncf .bf16 (exp g) bitsLt_bf16_f32) k0_pay5
    (constant S256x256 .f32 0x00000000#32)

/-- The right ends of the bins, from the sums. -/
def ends (s : FVec F S256x256 .f32) : FVec F S256x128 .f32 :=
  addf (mulf (broadcast S256x128 (Scalar.ofBits .f32 0x3A83126F#32)) k0_pay4)
    (divf (mulf (broadcast S256x128 (Scalar.ofBits .f32 0x3F5F3B64#32))
      (extractStridedSlice S256x128 ![0, 0] s slices_S256x256_o0_0_S256x128))
      (extractStridedSlice S256x128 ![0, 128] s slices_S256x256_o0_128_S256x128))

/-- The right ends of the bins along the first axis. -/
def cw (sp : FVec F S256x640 .f32) : FVec F S256x128 .f32 :=
  ends (sums (extractStridedSlice S256x128 ![0, 0] sp slices_S256x640_o0_0_S256x128))

/-- The right ends of the bins along the second axis, before scaling. -/
def ch (sp : FVec F S256x640 .f32) : FVec F S256x128 .f32 :=
  ends (sums (extractStridedSlice S256x128 ![0, 128] sp slices_S256x640_o0_128_S256x128))

/-- The slopes at the inner ends of the bins. -/
def slope (sp : FVec F S256x640 .f32) : FVec F S256x128 .f32 :=
  let d := extractStridedSlice S256x128 ![0, 256] sp slices_S256x640_o0_256_S256x128
  addf (broadcast S256x128 (Scalar.ofBits .f32 0x3A83126F#32))
    (addf (maximumf d (broadcast S256x128 (Scalar.ofBits .f32 0x00000000#32)))
      (log (addf (broadcast S256x128 (Scalar.ofBits .f32 0x3F800000#32))
        (exp (subf (broadcast S256x128 (Scalar.ofBits .f32 0x00000000#32)) (absf d))))))

/-- The scale of the second axis. -/
def scaleA (sp : FVec F S256x640 .f32) : FVec F S256x128 .f32 :=
  exp (extractStridedSlice S256x128 ![0, 384] sp slices_S256x640_o0_384_S256x128)

/-- The shift of the second axis. -/
def scaleB (sp : FVec F S256x640 .f32) : FVec F S256x128 .f32 :=
  extractStridedSlice S256x128 ![0, 512] sp slices_S256x640_o0_512_S256x128

/-- The array the search looks at: the right ends, the last one replaced by two. -/
def look (w : FVec F S256x128 .f32) : FVec F S256x128 .f32 :=
  select (cmpi .eq lane (broadcast S256x128 127#32)) (broadcast S256x128 (Scalar.ofBits .f32 0x40000000#32)) w

/-- The entries of `v` in the columns `i`, row by row. -/
def pick (v : FVec F S256x128 .f32) (i : IVec S256x128 32) : FVec F S256x128 .f32 :=
  dynamicGather 1 v (shapeCast S256x128 (shapeCast S256x128x1
    (select (cmpi .slt i (broadcast S256x128 0#32)) (addi i (broadcast S256x128 128#32)) i)
    shapeCasts_S256x128_S256x128x1) shapeCasts_S256x128x1_S256x128)

/-- One step of the search: look `o` columns ahead and move `s` columns if that entry is not above the quantile. -/
def step (v : FVec F S256x128 .f32) (o s : BitVec 32) (c : IVec S256x128 32) : IVec S256x128 32 :=
  select (cmpf .ole (pick v (addi c (broadcast S256x128 o))) tau) (addi c (broadcast S256x128 s)) c

/-- The bin of each quantile. -/
def bin (w : FVec F S256x128 .f32) : IVec S256x128 32 :=
  let v := look w
  step v 0#32 1#32 (step v 1#32 2#32 (step v 3#32 4#32 (step v 7#32 8#32 (step v 15#32 16#32
    (step v 31#32 32#32 (step v 63#32 64#32 (broadcast S256x128 0#32)))))))

/-- The entry one column to the left of the bin, or `z` at the first bin. -/
def left (z : BitVec 32) (v : FVec F S256x128 .f32) (c : IVec S256x128 32) : FVec F S256x128 .f32 :=
  select (cmpi .eq c (broadcast S256x128 0#32)) (broadcast S256x128 (Scalar.ofBits .f32 z))
    (pick v (subi c (broadcast S256x128 1#32)))

/-- The entry at the bin, or `z` at the last bin. -/
def right (z : BitVec 32) (v : FVec F S256x128 .f32) (c : IVec S256x128 32) : FVec F S256x128 .f32 :=
  select (cmpi .eq c (broadcast S256x128 127#32)) (broadcast S256x128 (Scalar.ofBits .f32 z)) (pick v c)

/-- The spline's value from the bin's ends and slopes. -/
def value (wl wr hl hr dl dr : FVec F S256x128 .f32) : FVec F S256x128 .f32 :=
  let w := subf wr wl
  let h := subf hr hl
  let d := divf h w
  let th := divf (subf tau wl) w
  let tt := mulf th (subf (broadcast S256x128 (Scalar.ofBits .f32 0x3F800000#32)) th)
  addf hl (divf (mulf h (addf (mulf (mulf d th) th) (mulf dl tt)))
    (addf d (mulf (subf (addf dl dr) (mulf (broadcast S256x128 (Scalar.ofBits .f32 0x40000000#32)) d)) tt)))

/-- The outputs from the five groups of the last layer. -/
def spline (sp : FVec F S256x640 .f32) : FVec F S256x128 .f32 :=
  let c := bin (cw sp)
  value (left 0x00000000#32 (cw sp) c) (right 0x3F800000#32 (cw sp) c)
    (addf (mulf (scaleA sp) (left 0x00000000#32 (ch sp) c)) (scaleB sp))
    (addf (mulf (scaleA sp) (pick (ch sp) c)) (scaleB sp))
    (left 0x3F0A2C8F#32 (slope sp) c) (right 0x3F0A2C8F#32 (slope sp) c)

/-- What 256 rows of the kernel's output hold. -/
def half (x : Vec F S256x256 .bf16) (a : Vec F S256x128 .bf16) (w1 : Vec F S256x1024 .bf16) (b1 : Vec F S1x1024 .bf16)
    (w2 : Vec F S1152x1024 .bf16) (b2 : Vec F S1x1024 .bf16) (wc : Vec F S1024x640 .bf16) (bc : Vec F S1x640 .f32) :
    FVec F S256x128 .f32 :=
  spline (logits (trunk x a w1 b1 w2 b2) wc bc)
end Cert.Half
-- ==== Proof.Consts.lean ====
module

public import Idealize.ShloMosaic.Lib.IdealHost

/-!
# The real numbers behind the words

The float constants of the two programs are stored as words.  Here each word is read as the real
number (or the infinity) it stands for.
-/

@[expose] public section
noncomputable section

namespace Cert.Consts
open Idealize.ShloMosaic

/-- The width of a hidden layer. -/
theorem w1024 : Ideal.ofBits .f32 1149239296#32 = ((1024 : ℝ) : EReal) := by
  simp [Ideal.ofBits, Ideal.ieee, -EReal.coe_mul]; norm_num

/-- The reciprocal of the width. -/
theorem wInv1024 : Ideal.ofBits .f32 981467136#32 = ((1 / 1024 : ℝ) : EReal) := by
  simp [Ideal.ofBits, Ideal.ieee, -EReal.coe_mul]; norm_num

/-- One half. -/
theorem wHalf : Ideal.ofBits .f32 1056964608#32 = ((1 / 2 : ℝ) : EReal) := by
  simp [Ideal.ofBits, Ideal.ieee, -EReal.coe_mul]; norm_num

/-- The number of bins. -/
theorem w128 : Ideal.ofBits .f32 1124073472#32 = ((128 : ℝ) : EReal) := by
  simp [Ideal.ofBits, Ideal.ieee, -EReal.coe_mul]; norm_num

/-- The reciprocal of the number of bins. -/
theorem wInv128 : Ideal.ofBits .f32 1006632960#32 = ((1 / 128 : ℝ) : EReal) := by
  simp [Ideal.ofBits, Ideal.ieee, -EReal.coe_mul]; norm_num

/-- Two. -/
theorem wTwo : Ideal.ofBits .f32 1073741824#32 = ((2 : ℝ) : EReal) := by
  simp [Ideal.ofBits, Ideal.ieee, -EReal.coe_mul]; norm_num

/-- The smallest value. -/
theorem wBot : Ideal.ofBits .f32 4286578688#32 = ⊥ := by
  simp [Ideal.ofBits, Ideal.ieee]

/-- The largest value. -/
theorem wTop : Ideal.ofBits .f32 2139095040#32 = ⊤ := by
  simp [Ideal.ofBits, Ideal.ieee]

/-- The number added to the variance is a positive real. -/
theorem wEps : ∃ e : ℝ, 0 < e ∧ Ideal.ofBits .f32 925353388#32 = (e : EReal) :=
  ⟨10995116 / 2 ^ 40, by norm_num, by simp [Ideal.ofBits, Ideal.ieee, -EReal.coe_mul]; norm_num⟩

/-- The least width of a bin is a positive real. -/
theorem wLeast : ∃ e : ℝ, 0 < e ∧ Ideal.ofBits .f32 981668463#32 = (e : EReal) :=
  ⟨8589935 / 2 ^ 33, by norm_num, by simp [Ideal.ofBits, Ideal.ieee, -EReal.coe_mul]; norm_num⟩

/-- What the bins share besides their least widths is a positive real. -/
theorem wRest : ∃ e : ℝ, 0 < e ∧ Ideal.ofBits .f32 1063205732#32 = (e : EReal) :=
  ⟨14629732 / 2 ^ 24, by norm_num, by simp [Ideal.ofBits, Ideal.ieee, -EReal.coe_mul]; norm_num⟩

end Cert.Consts
-- ==== Proof.Norm.lean ====
module

public import proofs.«01_k».proof.Proof.Consts

/-!
# The normalisation of a row

The kernel normalises a row of 1024 real numbers with the mean of the squares, the reference with the
mean of the squared distances from the mean.  Both give the same real numbers.
-/

@[expose] public section
noncomputable section

namespace Cert.Norm
open Idealize.ShloMosaic
open scoped BigOperators

/-- A sum of reals, taken among the extended reals. -/
theorem coe_sum {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A quotient of reals. -/
theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- The root of a real that is not negative. -/
theorem sqrt_coe (x : ℝ) (h : 0 ≤ x) : Ideal.sqrt (x : EReal) = ((Real.sqrt x : ℝ) : EReal) := by
  show (if x < 0 then (⊥ : EReal) else _) = _
  rw [if_neg (not_lt.2 h)]

/-- One over the root of a positive real. -/
theorem rsqrt_coe (x : ℝ) (h : 0 < x) : Ideal.rsqrt (x : EReal) = (((Real.sqrt x)⁻¹ : ℝ) : EReal) := by
  show (if x < 0 then (⊥ : EReal) else if x = 0 then ⊤ else _) = _
  rw [if_neg (not_lt.2 h.le), if_neg h.ne']

/-- The greater of a real and zero. -/
theorem max_coe (x : ℝ) : max (x : EReal) 0 = ((max x 0 : ℝ) : EReal) := by
  rw [← EReal.coe_zero]
  exact (EReal.coe_strictMono.monotone.map_max (a := x) (b := 0)).symm

/-- The mean of the squared distances from the mean is the mean of the squares less the squared mean. -/
theorem spread (r : Fin 1024 → ℝ) :
    (∑ k, r k * r k) * (1 / 1024) - (∑ k, r k) * (1 / 1024) * ((∑ k, r k) * (1 / 1024)) =
      (∑ k, (r k - (∑ k, r k) / 1024) * (r k - (∑ k, r k) / 1024)) / 1024 := by
  have e : ∀ m : ℝ, ∑ k, (r k - m) * (r k - m) = ∑ k, r k * r k - 2 * m * ∑ k, r k + 1024 * (m * m) := by
    intro m
    have : ∀ k, (r k - m) * (r k - m) = r k * r k - 2 * m * r k + m * m := fun k => by ring
    rw [Finset.sum_congr rfl fun k _ => this k, Finset.sum_add_distrib, Finset.sum_sub_distrib, ← Finset.mul_sum]
    simp
  rw [e]; ring

/-- The kernel's normalisation of a row at one place. -/
def kernelNorm (h : Fin 1024 → EReal) (j : Fin 1024) : EReal :=
  let mu := (∑ k, h k) * Ideal.ofBits .f32 981467136#32
  let s := Ideal.rsqrt ((∑ k, h k * h k) * Ideal.ofBits .f32 981467136#32 - mu * mu + Ideal.ofBits .f32 925353388#32)
  max (h j * s - mu * s) 0

/-- The reference's normalisation of a row at one place, with scale one and shift zero. -/
def refNorm (h : Fin 1024 → EReal) (j : Fin 1024) : EReal :=
  let mu := Ideal.div (∑ k, h k) (Ideal.ofBits .f32 1149239296#32)
  max (Ideal.div (h j - mu) (Ideal.sqrt (Ideal.div (∑ k, (h k - mu) * (h k - mu)) (Ideal.ofBits .f32 1149239296#32)
    + Ideal.ofBits .f32 925353388#32)) * 1 + 0) 0

/-- The reference's normalisation of a row of reals, as a real. -/
theorem refNorm_real (r : Fin 1024 → ℝ) : ∃ q : Fin 1024 → ℝ,
    ∀ j, refNorm (fun k => (r k : EReal)) j = (q j : EReal) ∧ kernelNorm (fun k => (r k : EReal)) j = (q j : EReal) := by
  obtain ⟨e, he, hw⟩ := Consts.wEps
  set m : ℝ := (∑ k, r k) / 1024 with hm
  set v : ℝ := (∑ k, (r k - m) * (r k - m)) / 1024 with hv
  have hv0 : 0 ≤ v := div_nonneg (Finset.sum_nonneg fun k _ => mul_self_nonneg _) (by norm_num)
  have hpos : 0 < v + e := by linarith
  have hs : Real.sqrt (v + e) ≠ 0 := (Real.sqrt_pos.2 hpos).ne'
  refine ⟨fun j => max ((r j - m) / Real.sqrt (v + e)) 0, fun j => ⟨?_, ?_⟩⟩
  · have h1 : Ideal.div (∑ k, (r k : EReal)) (Ideal.ofBits .f32 1149239296#32) = (m : EReal) := by
      rw [coe_sum, Consts.w1024, div_coe _ _ (by norm_num)]
    have h2 : Ideal.div (∑ k, ((r k : EReal) - m) * ((r k : EReal) - m)) (Ideal.ofBits .f32 1149239296#32) = (v : EReal) := by
      simp only [← EReal.coe_sub, ← EReal.coe_mul]
      rw [coe_sum, Consts.w1024, div_coe _ _ (by norm_num)]
    simp only [refNorm, h1, h2]
    rw [hw, ← EReal.coe_add, sqrt_coe _ hpos.le, ← EReal.coe_sub, div_coe _ _ hs, mul_one, add_zero, max_coe]
  · have h1 : (∑ k, (r k : EReal)) * Ideal.ofBits .f32 981467136#32 = (m : EReal) := by
      rw [coe_sum, Consts.wInv1024, ← EReal.coe_mul]
      exact congrArg _ (mul_one_div _ _)
    have h2 : (∑ k, (r k : EReal) * (r k : EReal)) * Ideal.ofBits .f32 981467136#32 - (m : EReal) * m = (v : EReal) := by
      simp only [← EReal.coe_mul]
      rw [coe_sum, Consts.wInv1024, ← EReal.coe_mul, ← EReal.coe_sub]
      refine congrArg _ (Eq.trans ?_ (spread r))
      rw [hm, ← mul_one_div (∑ k, r k) 1024]
    simp only [kernelNorm, h1, h2]
    rw [hw, ← EReal.coe_add, rsqrt_coe _ hpos, ← EReal.coe_mul, ← EReal.coe_mul, ← EReal.coe_sub, max_coe]
    refine congrArg (fun x : ℝ => ((max x 0 : ℝ) : EReal)) ?_
    rw [← sub_mul, div_eq_mul_inv]

/-- On a row of reals the two normalisations agree and give reals. -/
theorem norm_eq (h : Fin 1024 → EReal) (hr : ∀ k, ∃ r : ℝ, h k = r) (j : Fin 1024) :
    kernelNorm h j = refNorm h j ∧ ∃ q : ℝ, refNorm h j = q := by
  choose r hr using hr
  obtain rfl : h = fun k => (r k : EReal) := funext hr
  obtain ⟨q, hq⟩ := refNorm_real r
  exact ⟨(hq j).2.trans (hq j).1.symm, q j, (hq j).1⟩

end Cert.Norm
-- ==== Proof.Soft.lean ====
module

public import proofs.«01_k».proof.Proof.Norm

/-!
# The ends of the bins

The widths of 128 bins are a least width plus a share of the rest in proportion to exponentials.  The
kernel adds up the exponentials and scales the sum, the reference scales each one, after dividing all
of them by the largest, and adds up.  On real numbers both give the same ends, which grow.
-/

@[expose] public section
noncomputable section

namespace Cert.Soft
open Idealize.ShloMosaic Cert.Norm
open scoped BigOperators

/-- The exponential of a real. -/
theorem exp_coe (x : ℝ) : Ideal.exp (x : EReal) = ((Real.exp x : ℝ) : EReal) := rfl

/-- The right end of bin `j` as the kernel computes it. -/
def kernelEnd (g : Fin 128 → EReal) (j : Fin 128) : EReal :=
  Ideal.ofBits .f32 981668463#32 * (((j.val : ℝ) : EReal) + 1) +
    Ideal.div (Ideal.ofBits .f32 1063205732#32 * ∑ k : Fin 128, if k.val ≤ j.val then Ideal.exp (g k) else 0)
      (∑ k : Fin 128, Ideal.exp (g k))

/-- The width of bin `k` as the reference computes it, `t` being the largest entry. -/
def refWidth (g : Fin 128 → EReal) (t : EReal) (k : Fin 128) : EReal :=
  Ideal.ofBits .f32 981668463#32 + Ideal.ofBits .f32 1063205732#32 *
    Ideal.div (Ideal.exp (g k - t)) (∑ k : Fin 128, Ideal.exp (g k - t))

/-- The right end of bin `j` as the reference computes it. -/
def refEnd (g : Fin 128 → EReal) (t : EReal) (j : Fin 128) : EReal :=
  ∑ k : Fin 128, if k.val ≤ j.val then refWidth g t k else 0

/-- How many of the 128 columns are up to column `j`. -/
theorem card_le (j : Fin 128) : ∑ k : Fin 128, (if k.val ≤ j.val then (1 : ℝ) else 0) = (j.val : ℝ) + 1 := by
  rw [Finset.sum_boole]
  have e : (Finset.univ.filter fun k : Fin 128 => k.val ≤ j.val) = Finset.Iic j := by
    ext k; rw [Finset.mem_filter, Finset.mem_Iic]; exact ⟨fun h => h.2, fun h => ⟨Finset.mem_univ _, h⟩⟩
  rw [e, Fin.card_Iic]
  push_cast; rfl

/-- A conditional real, taken among the extended reals. -/
theorem coe_ite (p : Prop) [Decidable p] (a : ℝ) :
    (if p then (a : EReal) else 0) = ((if p then a else 0 : ℝ) : EReal) := by
  split <;> simp

/-- The two computations of the ends give the same reals, and the ends grow from one bin to the next. -/
theorem ends_real (g : Fin 128 → ℝ) (t : ℝ) : ∃ q : Fin 128 → ℝ, (∀ a b, a ≤ b → q a ≤ q b) ∧ ∀ j,
    kernelEnd (fun k => (g k : EReal)) j = (q j : EReal) ∧ refEnd (fun k => (g k : EReal)) t j = (q j : EReal) := by
  obtain ⟨a, ha, hwa⟩ := Consts.wLeast
  obtain ⟨b, hb, hwb⟩ := Consts.wRest
  set T : ℝ := ∑ k, Real.exp (g k - t) with hT
  have hTpos : 0 < T := Finset.sum_pos (fun k _ => Real.exp_pos _) ⟨0, Finset.mem_univ _⟩
  have hw : ∀ k, refWidth (fun k => (g k : EReal)) t k = ((a + b * (Real.exp (g k - t) / T) : ℝ) : EReal) := by
    intro k
    simp only [refWidth, ← EReal.coe_sub, exp_coe]
    rw [coe_sum, div_coe _ _ hTpos.ne', hwa, hwb, ← EReal.coe_mul, ← EReal.coe_add]
  have hwpos : ∀ k, 0 ≤ a + b * (Real.exp (g k - t) / T) := fun k =>
    add_nonneg ha.le (mul_nonneg hb.le (div_nonneg (Real.exp_pos _).le hTpos.le))
  refine ⟨fun j => ∑ k : Fin 128, if k.val ≤ j.val then a + b * (Real.exp (g k - t) / T) else 0, ?_, fun j => ⟨?_, ?_⟩⟩
  · intro x y hxy
    refine Finset.sum_le_sum fun k _ => ?_
    by_cases h : k.val ≤ x.val
    · rw [if_pos h, if_pos (h.trans hxy)]
    · rw [if_neg h]
      split
      · exact hwpos k
      · exact le_rfl
  · have hE : ∀ k, Real.exp (g k - t) = Real.exp (g k) * Real.exp (-t) := fun k => by
      rw [sub_eq_add_neg, Real.exp_add]
    have hTT : T = (∑ k, Real.exp (g k)) * Real.exp (-t) := by
      rw [hT, Finset.sum_mul]; exact Finset.sum_congr rfl fun k _ => hE k
    have hSpos : 0 < ∑ k, Real.exp (g k) := Finset.sum_pos (fun k _ => Real.exp_pos _) ⟨0, Finset.mem_univ _⟩
    simp only [kernelEnd, exp_coe, coe_ite]
    rw [coe_sum, coe_sum, hwa, hwb, ← EReal.coe_mul, div_coe _ _ hSpos.ne', ← EReal.coe_one, ← EReal.coe_add,
      ← EReal.coe_mul, ← EReal.coe_add]
    refine congrArg _ ?_
    rw [← card_le, Finset.mul_sum, Finset.mul_sum, Finset.sum_div, ← Finset.sum_add_distrib]
    refine Finset.sum_congr rfl fun k _ => ?_
    split
    · rw [hE, hTT, mul_div_mul_right _ _ (Real.exp_pos _).ne', mul_one, mul_div_assoc]
    · rw [mul_zero, mul_zero, zero_div, add_zero]
  · simp only [refEnd, hw, coe_ite]
    rw [coe_sum]

/-- On real numbers the two computations of the ends agree, and the ends grow. -/
theorem ends_eq (g : Fin 128 → EReal) (hg : ∀ k, ∃ r : ℝ, g k = r) (t : EReal) (ht : ∃ r : ℝ, t = r) :
    (∀ j, kernelEnd g j = refEnd g t j) ∧ ∀ a b, a ≤ b → kernelEnd g a ≤ kernelEnd g b := by
  choose r hr using hg
  obtain ⟨s, rfl⟩ := ht
  obtain rfl : g = fun k => (r k : EReal) := funext hr
  obtain ⟨q, hm, hq⟩ := ends_real r s
  refine ⟨fun j => (hq j).1.trans (hq j).2.symm, fun x y h => ?_⟩
  rw [(hq x).1, (hq y).1]
  exact EReal.coe_le_coe_iff.2 (hm x y h)

end Cert.Soft
-- ==== Proof.Search.lean ====
module

public import Idealize.ShloMosaic.Lib.Pointwise
public import Idealize.ShloMosaic.Lib.Pointwise.Index

/-!
# Finding a bin

The kernel finds the bin of a quantile by halving seven times, the reference by counting the bin ends
that are not above the quantile.  When the ends up to number `n` are those not above it, both find `n`.
-/

@[expose] public section
set_option maxRecDepth 16384

namespace Cert.Search
open Idealize.ShloMosaic

/-- The column a 32-bit number picks out of 128. -/
def col (c : BitVec 32) : Fin 128 :=
  ⟨(Scalar.select (IntOp.cmpi CmpIPredicate.slt c 0#32) (IntOp.addi c 128#32) c).toNat % 128, Nat.mod_lt _ (by decide)⟩

/-- One halving, when the columns below `n` are those not above the quantile. -/
def halve (n : Fin 128) (o s c : BitVec 32) : BitVec 32 :=
  if col (IntOp.addi c o) < n then IntOp.addi c s else c

/-- Seven halvings find `n`. -/
theorem halve_all : ∀ n : Fin 128,
    halve n 0#32 1#32 (halve n 1#32 2#32 (halve n 3#32 4#32 (halve n 7#32 8#32 (halve n 15#32 16#32
      (halve n 31#32 32#32 (halve n 63#32 64#32 0#32)))))) = BitVec.ofNat 32 n.val := by
  decide +kernel

/-- The 129 bits that are one up to number `n`, added up, are one more than `n`. -/
theorem count_all : ∀ n : Fin 128,
    IntOp.subi (Finset.fold IntOp.addi 0#32
      (fun x : Fin 129 => BitVec.setWidth 32 (BitVec.ofBool (decide (x.val ≤ n.val)))) Finset.univ) 1#32 =
      BitVec.ofNat 32 n.val := by
  decide +kernel

/-- A bin's own column. -/
theorem col_self : ∀ n : Fin 128, col (BitVec.ofNat 32 n.val) = n := by
  decide +kernel

/-- The column one to the left of a bin that is not the first. -/
theorem col_left : ∀ n : Fin 128, n.val ≠ 0 →
    (col (IntOp.subi (BitVec.ofNat 32 n.val) 1#32)).val = n.val - 1 := by
  decide +kernel

/-- A number below 128 compared with zero. -/
theorem eq_zero : ∀ n : Fin 128, IntOp.cmpi CmpIPredicate.eq (BitVec.ofNat 32 n.val) 0#32 = BitVec.ofBool (decide (n.val = 0)) := by
  decide +kernel

/-- A number below 128 compared with the last one. -/
theorem eq_last : ∀ n : Fin 128, IntOp.cmpi CmpIPredicate.eq (BitVec.ofNat 32 n.val) 127#32 = BitVec.ofBool (decide (n.val = 127)) := by
  decide +kernel

/-- The mask of the running sums: in the first 128 columns the rows up to the column's number. -/
theorem mask_low : ∀ k j : Fin 128, IntOp.ori (IntOp.cmpi CmpIPredicate.sle (BitVec.ofNat 32 k.val) (BitVec.ofNat 32 j.val))
    (IntOp.cmpi CmpIPredicate.sge (BitVec.ofNat 32 j.val) 128#32) = BitVec.ofBool (decide (k.val ≤ j.val)) := by
  decide +kernel

/-- The mask of the running sums: in the other columns every row. -/
theorem mask_high : ∀ k j : Fin 128, IntOp.ori (IntOp.cmpi CmpIPredicate.sle (BitVec.ofNat 32 k.val) (BitVec.ofNat 32 (128 + j.val)))
    (IntOp.cmpi CmpIPredicate.sge (BitVec.ofNat 32 (128 + j.val)) 128#32) = 1#1 := by
  decide +kernel

/-- A choice made by a decided bit. -/
theorem select_decide {α : Type} (p : Prop) [Decidable p] (a b : α) :
    Scalar.select (BitVec.ofBool (decide p)) a b = if p then a else b := by
  by_cases h : p <;> simp [Scalar.select, h]

/-- A choice made by the bit one. -/
theorem select_true {α : Type} (a b : α) : Scalar.select 1#1 a b = a := by
  simp [Scalar.select]

/-- Ends in growing order are not above a number exactly up to some bin. -/
theorem exists_bin (P : Fin 128 → Prop) (h : ∀ a b : Fin 128, a ≤ b → P b → P a) (hl : ¬ P 127) :
    ∃ n : Fin 128, ∀ k, P k ↔ k < n := by
  classical
  have hne : (Finset.univ.filter fun k => ¬ P k).Nonempty := ⟨127, by simp [hl]⟩
  refine ⟨(Finset.univ.filter fun k => ¬ P k).min' hne, fun k => ⟨fun hk => ?_, fun hk => ?_⟩⟩
  · rw [← not_le]
    intro hle
    exact (Finset.mem_filter.1 ((Finset.univ.filter fun k => ¬ P k).min'_mem hne)).2 (h _ _ hle hk)
  · by_contra hn
    exact absurd ((Finset.univ.filter fun k => ¬ P k).min'_le k (by simp [hn])) (not_le.2 hk)

end Cert.Search
-- ==== Proof.HalfVals.lean ====
module

public import proofs.«01_k».proof.Proof.Half
public import proofs.«01_k».proof.Proof.Norm
public import proofs.«01_k».proof.Proof.Soft
public import proofs.«01_k».proof.Proof.Search
public import Idealize.ShloMosaic.Lib.Pointwise
public import Idealize.ShloMosaic.Lib.Pointwise.Index

/-!
# The kernel's block, entry by entry

Each step of the kernel's block is read at one row and one column.
-/

@[expose] public section
set_option maxRecDepth 16384
noncomputable section

namespace Cert.Half
open Cert.KernelIdeal Cert.KernelIdeal.Gen Idealize.ShloMosaic
open scoped BigOperators

/-- A small number, converted to a float. -/
theorem float_small (l : Fin 128) : (FloatOps.sitofp (F := Ideal) .f32 (BitVec.ofNat 32 l.val) : EReal) = ((l.val : ℝ) : EReal) := by
  have e : (BitVec.ofNat 32 l.val).toInt = (l.val : Int) := by
    rw [BitVec.toInt_eq_toNat_cond]
    simp only [BitVec.toNat_ofNat]
    have := l.isLt
    rw [Nat.mod_eq_of_lt (by omega), if_pos (by omega)]
  show (((BitVec.ofNat 32 l.val).toInt : ℝ) : EReal) = _
  rw [e]; norm_cast

/-- The quantile of a column. -/
theorem tau_at (i : Fin 256) (l : Fin 128) : (tau (F := Ideal) (ix2 i l) : EReal) =
    (((l.val : ℝ) : EReal) + Ideal.ofBits .f32 1056964608#32) * Ideal.ofBits .f32 1006632960#32 := by
  rw [← float_small]
  pointwise [tau, k0_pay3, k0_pay2]

/-- The mean of a row. -/
theorem rowMean_at (h : FVec Ideal S256x1024 .bf16) (i : Fin 256) (l : Fin 128) :
    (rowMean h (ix2 i l) : EReal) = (∑ k, h (ix2 i k)) * Ideal.ofBits .f32 981467136#32 := by
  pointwise [rowMean, k0_pay6]

/-- One over a row's standard deviation. -/
theorem rowScale_at (mu sq : FVec Ideal S256x128 .f32) (i : Fin 256) (l : Fin 128) : (rowScale mu sq (ix2 i l) : EReal) =
    Ideal.rsqrt (sq (ix2 i l) - mu (ix2 i l) * mu (ix2 i l) + Ideal.ofBits .f32 925353388#32) := by
  pointwise [rowScale]

/-- An array whose rows are constant, repeated side by side, is constant in the same rows. -/
theorem wide_at (v : FVec Ideal S256x128 .f32) (i : Fin 256) (j : Fin 1024) (c : EReal) (h : ∀ l, (v (ix2 i l) : EReal) = c) :
    (wide v (ix2 i j) : EReal) = c := by
  pointwise [wide]
  simp only [h]
  repeat (first | rfl | split)

/-- The normalised layer. -/
theorem normed_at (h : FVec Ideal S256x1024 .bf16) (i : Fin 256) (j : Fin 1024) :
    (normed h (ix2 i j) : EReal) = Norm.kernelNorm (fun k => h (ix2 i k)) j := by
  have sq : ∀ l, (rowMean (mulf h h) (ix2 i l) : EReal) = (∑ k, h (ix2 i k) * h (ix2 i k)) * Ideal.ofBits .f32 981467136#32 :=
    fun l => by rw [rowMean_at]; pointwise
  have e1 : ∀ l, (rowScale (rowMean h) (rowMean (mulf h h)) (ix2 i l) : EReal) = Ideal.rsqrt
      ((∑ k, h (ix2 i k) * h (ix2 i k)) * Ideal.ofBits .f32 981467136#32 -
        ((∑ k, h (ix2 i k)) * Ideal.ofBits .f32 981467136#32) * ((∑ k, h (ix2 i k)) * Ideal.ofBits .f32 981467136#32) +
        Ideal.ofBits .f32 925353388#32) := fun l => by
    rw [rowScale_at, sq, rowMean_at]
  have e2 := fun l => congrArg (fun x : EReal => (rowMean h (ix2 i l) : EReal) * x) (e1 l)
  simp only [rowMean_at] at e2
  have w1 := wide_at _ i j _ e1
  have w2 := wide_at (mulf (rowMean h) (rowScale (rowMean h) (rowMean (mulf h h)))) i j
    (((∑ k, h (ix2 i k)) * Ideal.ofBits .f32 981467136#32) * Ideal.rsqrt
      ((∑ k, h (ix2 i k) * h (ix2 i k)) * Ideal.ofBits .f32 981467136#32 -
        ((∑ k, h (ix2 i k)) * Ideal.ofBits .f32 981467136#32) * ((∑ k, h (ix2 i k)) * Ideal.ofBits .f32 981467136#32) +
        Ideal.ofBits .f32 925353388#32)) (fun l => by rw [← e1 l, ← rowMean_at h i l]; rfl)
  have c : (normed h (ix2 i j) : EReal) = max (h (ix2 i j) * wide (rowScale (rowMean h) (rowMean (mulf h h))) (ix2 i j) -
      wide (mulf (rowMean h) (rowScale (rowMean h) (rowMean (mulf h h)))) (ix2 i j)) 0 := by
    pointwise [normed, cut]
  rw [c, w1, w2]
  rfl

/-- The first layer before its normalisation. -/
theorem layer1_at (x : Vec Ideal S256x256 .bf16) (w1 : Vec Ideal S256x1024 .bf16) (b1 : Vec Ideal S1x1024 .bf16)
    (i : Fin 256) (j : Fin 1024) :
    (k0_pay8 x w1 b1 (ix2 i j) : EReal) = ∑ k : Fin 256, x (ix2 i k) * w1 (ix2 k j) + b1 (ix2 0 j) := by
  pointwise [k0_pay8]

/-- The second layer before its normalisation. -/
theorem layer2_at (x1 : FVec Ideal S256x1024 .bf16) (a : Vec Ideal S256x128 .bf16) (w2 : Vec Ideal S1152x1024 .bf16)
    (b2 : Vec Ideal S1x1024 .bf16) (i : Fin 256) (j : Fin 1024) :
    (layer2 x1 a w2 b2 (ix2 i j) : EReal) = ∑ k : Fin 1024, x1 (ix2 i k) * w2 (ix2 ⟨k.val, by omega⟩ j) +
      ∑ k : Fin 128, a (ix2 i k) * w2 (ix2 ⟨1024 + k.val, by omega⟩ j) + b2 (ix2 0 j) := by
  pointwise [layer2]

/-- The last layer. -/
theorem logits_at (t : FVec Ideal S256x1024 .bf16) (wc : Vec Ideal S1024x640 .bf16) (bc : Vec Ideal S1x640 .f32)
    (i : Fin 256) (j : Fin 640) :
    (logits t wc bc (ix2 i j) : EReal) = ∑ k : Fin 1024, t (ix2 i k) * wc (ix2 k j) + bc (ix2 0 j) := by
  pointwise [logits, k0_pay14, k0_pay13]

/-- The running sums of the exponentials. -/
theorem sums_low (g : FVec Ideal S256x128 .f32) (i : Fin 256) (j : Fin 128) :
    (sums g (ix2 i ⟨j.val, by omega⟩) : EReal) = ∑ k : Fin 128, if k.val ≤ j.val then Ideal.exp (g (ix2 i k)) else 0 := by
  pointwise [sums, k0_pay5]
  simp only [Search.mask_low, Search.select_decide]

/-- The whole sum of the exponentials. -/
theorem sums_high (g : FVec Ideal S256x128 .f32) (i : Fin 256) (j : Fin 128) :
    (sums g (ix2 i ⟨128 + j.val, by omega⟩) : EReal) = ∑ k : Fin 128, Ideal.exp (g (ix2 i k)) := by
  pointwise [sums, k0_pay5]
  simp only [Search.mask_high, Search.select_true]

/-- The ends of the bins of a group. -/
theorem ends_at (g : FVec Ideal S256x128 .f32) (i : Fin 256) (j : Fin 128) :
    (ends (sums g) (ix2 i j) : EReal) = Soft.kernelEnd (fun k => g (ix2 i k)) j := by
  have e : (ends (sums g) (ix2 i j) : EReal) = Ideal.ofBits .f32 981668463#32 *
      (FloatOps.sitofp (F := Ideal) .f32 (BitVec.ofNat 32 j.val) + 1) +
      Ideal.div (Ideal.ofBits .f32 1063205732#32 * sums g (ix2 i ⟨j.val, by omega⟩)) (sums g (ix2 i ⟨128 + j.val, by omega⟩)) := by
    pointwise [ends, k0_pay4, k0_pay2]
  rw [e, sums_low, sums_high, float_small]
  rfl

/-- The right ends of the bins along the first axis. -/
theorem cw_at (sp : FVec Ideal S256x640 .f32) (i : Fin 256) (j : Fin 128) :
    (cw sp (ix2 i j) : EReal) = Soft.kernelEnd (fun k => sp (ix2 i ⟨k.val, by omega⟩)) j := by
  rw [cw, ends_at]
  congr 1; funext k
  pointwise

/-- The right ends of the bins along the second axis. -/
theorem ch_at (sp : FVec Ideal S256x640 .f32) (i : Fin 256) (j : Fin 128) :
    (ch sp (ix2 i j) : EReal) = Soft.kernelEnd (fun k => sp (ix2 i ⟨128 + k.val, by omega⟩)) j := by
  rw [ch, ends_at]
  congr 1; funext k
  pointwise

/-- The slopes at the inner ends. -/
theorem slope_at (sp : FVec Ideal S256x640 .f32) (i : Fin 256) (j : Fin 128) (d : EReal)
    (h : (sp (ix2 i ⟨256 + j.val, by omega⟩) : EReal) = d) :
    (slope sp (ix2 i j) : EReal) = Ideal.ofBits .f32 981668463#32 + (max d 0 + Ideal.log1p (Ideal.exp (-max d (-d)))) := by
  have e : (slope sp (ix2 i j) : EReal) = Ideal.ofBits .f32 981668463#32 + (max (sp (ix2 i ⟨256 + j.val, by omega⟩)) 0 +
      Ideal.log (1 + Ideal.exp (0 - FloatOps.absf (sp (ix2 i ⟨256 + j.val, by omega⟩))))) := by
    pointwise [slope]
  rw [e, ← h, zero_sub]
  rfl

/-- The scale of the second axis. -/
theorem scaleA_at (sp : FVec Ideal S256x640 .f32) (i : Fin 256) (j : Fin 128) :
    (scaleA sp (ix2 i j) : EReal) = Ideal.exp (sp (ix2 i ⟨384 + j.val, by omega⟩)) := by
  pointwise [scaleA]

/-- The shift of the second axis. -/
theorem scaleB_at (sp : FVec Ideal S256x640 .f32) (i : Fin 256) (j : Fin 128) :
    (scaleB sp (ix2 i j) : EReal) = sp (ix2 i ⟨512 + j.val, by omega⟩) := by
  pointwise [scaleB]

/-- What the search looks at. -/
theorem look_at (w : FVec Ideal S256x128 .f32) (i : Fin 256) (j : Fin 128) :
    (look w (ix2 i j) : EReal) = if j.val = 127 then Ideal.ofBits .f32 1073741824#32 else w (ix2 i j) := by
  rw [← Search.select_decide, ← Search.eq_last]
  pointwise [look, lane]

/-- An entry picked by its column. -/
theorem pick_at (v : FVec Ideal S256x128 .f32) (c : IVec S256x128 32) (i : Fin 256) (l : Fin 128) :
    (pick v c (ix2 i l) : EReal) = v (ix2 i (Search.col (c (ix2 i l)))) := by
  pointwise [pick]
  rfl

/-- One step of the search. -/
theorem step_at (v : FVec Ideal S256x128 .f32) (c : IVec S256x128 32) (o s : BitVec 32) (i : Fin 256) (l n : Fin 128)
    (h : ∀ k, (v (ix2 i k) : EReal) ≤ tau (F := Ideal) (ix2 i l) ↔ k < n) :
    step v o s c (ix2 i l) = Search.halve n o s (c (ix2 i l)) := by
  have e : step v o s c (ix2 i l) = if (pick v (addi c (broadcast S256x128 o)) (ix2 i l) : EReal) ≤ tau (F := Ideal) (ix2 i l)
      then IntOp.addi (c (ix2 i l)) s else c (ix2 i l) := by
    pointwise [step]
  rw [e, pick_at]
  exact if_congr (h _) rfl rfl

/-- The search finds the bin. -/
theorem bin_at (w : FVec Ideal S256x128 .f32) (i : Fin 256) (l n : Fin 128)
    (h : ∀ k, (look w (ix2 i k) : EReal) ≤ tau (F := Ideal) (ix2 i l) ↔ k < n) :
    bin w (ix2 i l) = BitVec.ofNat 32 n.val := by
  rw [← Search.halve_all n]
  simp only [bin, step_at _ _ _ _ i l n h]
  rfl

/-- The entry to the left of a bin. -/
theorem left_at (z : BitVec 32) (v : FVec Ideal S256x128 .f32) (c : IVec S256x128 32) (i : Fin 256) (l n : Fin 128)
    (h : c (ix2 i l) = BitVec.ofNat 32 n.val) :
    (left z v c (ix2 i l) : EReal) = if n.val = 0 then Ideal.ofBits .f32 z else v (ix2 i ⟨n.val - 1, by omega⟩) := by
  have e : (left z v c (ix2 i l) : EReal) = Scalar.select (IntOp.cmpi CmpIPredicate.eq (c (ix2 i l)) 0#32)
      (Ideal.ofBits .f32 z) (pick v (subi c (broadcast S256x128 1#32)) (ix2 i l)) := by
    pointwise [left]
  rw [e, pick_at, h, Search.eq_zero, Search.select_decide]
  by_cases hn : n.val = 0
  · rw [if_pos hn, if_pos hn]
  · rw [if_neg hn, if_neg hn]
    have q : Search.col (subi c (broadcast S256x128 1#32) (ix2 i l)) = ⟨n.val - 1, by omega⟩ :=
      Fin.ext ((congrArg (fun b => (Search.col (IntOp.subi b 1#32)).val) h).trans (Search.col_left n hn))
    rw [q]

/-- The entry at a bin, the last bin excepted. -/
theorem right_at (z : BitVec 32) (v : FVec Ideal S256x128 .f32) (c : IVec S256x128 32) (i : Fin 256) (l n : Fin 128)
    (h : c (ix2 i l) = BitVec.ofNat 32 n.val) :
    (right z v c (ix2 i l) : EReal) = if n.val = 127 then Ideal.ofBits .f32 z else v (ix2 i n) := by
  have e : (right z v c (ix2 i l) : EReal) = Scalar.select (IntOp.cmpi CmpIPredicate.eq (c (ix2 i l)) 127#32)
      (Ideal.ofBits .f32 z) (pick v c (ix2 i l)) := by
    pointwise [right]
  rw [e, pick_at, h, Search.eq_last, Search.select_decide, Search.col_self]

/-- The spline's value between the ends `wl`, `wr` with heights `hl`, `hr` and slopes `dl`, `dr`. -/
def curve (t wl wr hl hr dl dr : EReal) : EReal :=
  hl + Ideal.div ((hr - hl) * (Ideal.div (hr - hl) (wr - wl) * Ideal.div (t - wl) (wr - wl) * Ideal.div (t - wl) (wr - wl) +
      dl * (Ideal.div (t - wl) (wr - wl) * (1 - Ideal.div (t - wl) (wr - wl)))))
    (Ideal.div (hr - hl) (wr - wl) + (dl + dr - Ideal.ofBits .f32 1073741824#32 * Ideal.div (hr - hl) (wr - wl)) *
      (Ideal.div (t - wl) (wr - wl) * (1 - Ideal.div (t - wl) (wr - wl))))

/-- The spline's value at one place. -/
theorem value_at (a b c d e f : FVec Ideal S256x128 .f32) (i : Fin 256) (l : Fin 128) : (value a b c d e f (ix2 i l) : EReal) =
    curve (tau (F := Ideal) (ix2 i l)) (a (ix2 i l)) (b (ix2 i l)) (c (ix2 i l)) (d (ix2 i l)) (e (ix2 i l)) (f (ix2 i l)) := by
  pointwise [value]
  rfl

/-- A scaled and shifted array at one place. -/
theorem affine_at (a x b : FVec Ideal S256x128 .f32) (i : Fin 256) (l : Fin 128) :
    (addf (mulf a x) b (ix2 i l) : EReal) = (a (ix2 i l) : EReal) * x (ix2 i l) + b (ix2 i l) := by
  pointwise

/-- The output at a place whose bin is known. -/
theorem spline_at (sp : FVec Ideal S256x640 .f32) (i : Fin 256) (l n : Fin 128)
    (h : bin (cw sp) (ix2 i l) = BitVec.ofNat 32 n.val) : (spline sp (ix2 i l) : EReal) =
    curve (tau (F := Ideal) (ix2 i l))
      (if n.val = 0 then Ideal.ofBits .f32 0x00000000#32 else cw sp (ix2 i ⟨n.val - 1, by omega⟩))
      (if n.val = 127 then Ideal.ofBits .f32 0x3F800000#32 else cw sp (ix2 i n))
      ((scaleA sp (ix2 i l) : EReal) * (if n.val = 0 then Ideal.ofBits .f32 0x00000000#32 else ch sp (ix2 i ⟨n.val - 1, by omega⟩)) +
        scaleB sp (ix2 i l))
      ((scaleA sp (ix2 i l) : EReal) * ch sp (ix2 i n) + scaleB sp (ix2 i l))
      (if n.val = 0 then Ideal.ofBits .f32 0x3F0A2C8F#32 else slope sp (ix2 i ⟨n.val - 1, by omega⟩))
      (if n.val = 127 then Ideal.ofBits .f32 0x3F0A2C8F#32 else slope sp (ix2 i n)) := by
  simp only [spline]
  rw [value_at, affine_at, affine_at, left_at _ _ _ i l n h, right_at _ _ _ i l n h, left_at _ _ _ i l n h,
    left_at _ _ _ i l n h, right_at _ _ _ i l n h, pick_at, h, Search.col_self]

end Cert.Half
-- ==== Proof.Moves.lean ====
module
public import proofs.«01_k».proof.Proof.Gen.ReferenceIdeal
public import Idealize.ShloMosaic.Lib.Pointwise
public import Idealize.ShloMosaic.Lib.Pointwise.Index
public import Idealize.ShloMosaic.Lib.Routing.OpsPair
public import Idealize.ShloMosaic.Lib.Routing.OpsSet
@[expose] public section
set_option maxRecDepth 16384
noncomputable section
namespace Cert.Ref
open Cert.ReferenceIdeal Cert.ReferenceIdeal.Gen Idealize.ShloMosaic

/-- A small number read back from its 32-bit word as a signed integer. -/
theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- A gather along the columns of an array of 129 columns, read at an entry whose index word is `n`. -/
theorem gather129_at (x : S16384x129.Idx → EReal) (idx : IVec S16384x128x1 32) (i : Fin 16384) (j : Fin 128)
    (n : ℕ) (hn : n < 129) (h : idx (ix3 i j 0) = BitVec.ofNat 32 n) :
    Host.gather gather_S16384x129_S16384x128x1_S16384x128_n_1_0_0_1_2_11 x idx (ix2 i j) = x (ix2 i ⟨n, hn⟩) := by
  unfold Host.gather
  refine congrArg x (funext fun a => Fin.ext ?_)
  match a with
  | ⟨0, _⟩ => show 0 + i.val + 0 = i.val; omega
  | ⟨1, _⟩ =>
    have e : gather_S16384x129_S16384x128x1_S16384x128_n_1_0_0_1_2_11.siIdx (ix2 i j) ⟨0, by decide⟩ = ix3 i j 0 := by
      funext b
      match b with
      | ⟨0, _⟩ => rfl
      | ⟨1, _⟩ => rfl
      | ⟨2, _⟩ => rfl
    show min (idx (gather_S16384x129_S16384x128x1_S16384x128_n_1_0_0_1_2_11.siIdx (ix2 i j) ⟨0, _⟩)).toInt.toNat (129 - 1) + 0 + 0 = n
    rw [e, h, toInt_small n (by omega)]
    omega

/-- A gather along the columns of an array of 128 columns, read at an entry whose index word is `n`. -/
theorem gather128_at (x : S16384x128.Idx → EReal) (idx : IVec S16384x128x1 32) (i : Fin 16384) (j : Fin 128)
    (n : ℕ) (hn : n < 128) (h : idx (ix3 i j 0) = BitVec.ofNat 32 n) :
    Host.gather gather_S16384x128_S16384x128x1_S16384x128_n_1_0_0_1_2_11 x idx (ix2 i j) = x (ix2 i ⟨n, hn⟩) := by
  unfold Host.gather
  refine congrArg x (funext fun a => Fin.ext ?_)
  match a with
  | ⟨0, _⟩ => show 0 + i.val + 0 = i.val; omega
  | ⟨1, _⟩ =>
    have e : gather_S16384x128_S16384x128x1_S16384x128_n_1_0_0_1_2_11.siIdx (ix2 i j) ⟨0, by decide⟩ = ix3 i j 0 := by
      funext b
      match b with
      | ⟨0, _⟩ => rfl
      | ⟨1, _⟩ => rfl
      | ⟨2, _⟩ => rfl
    show min (idx (gather_S16384x128_S16384x128x1_S16384x128_n_1_0_0_1_2_11.siIdx (ix2 i j) ⟨0, _⟩)).toInt.toNat (128 - 1) + 0 + 0 = n
    rw [e, h, toInt_small n (by omega)]
    omega

/-- Writing one number into column 128 of every row: the last column holds it, the others are as they were. -/
theorem scatter_last (x : S16384x129.Idx → EReal) (idx : IVec S1 32) (u : S16384.Idx → EReal) (v : EReal)
    (h : ∀ k, idx k = 128#32) (hu : ∀ k, u k = v) (i : Fin 16384) (j : Fin 129) :
    Host.scatter scatter_S16384x129_S1_S16384_0_1_1_0 (fun _ b => b) x idx u (ix2 i j)
      = if j.val = 128 then v else x (ix2 i j) := by
  have key : ∀ k : S16384.Idx, scatter_S16384x129_S1_S16384_0_1_1_0.resultIdx? k idx = some (ix2 i j)
      ↔ (k 0 : ℕ) = i.val ∧ j.val = 128 := by
    intro k
    rw [Routing.resultIdx?_eq_some]
    constructor
    · intro q
      have q0 : (0 : ℤ) + ((k 0 : ℕ) : ℤ) = (i.val : ℤ) := q 0
      have q1 : (idx _).toInt + ((0 : ℕ) : ℤ) = (j.val : ℤ) := q 1
      rw [h] at q1
      have : (128#32).toInt = 128 := rfl
      omega
    · rintro ⟨q0, q1⟩ a
      match a with
      | ⟨0, _⟩ => show (0 : ℤ) + ((k 0 : ℕ) : ℤ) = (i.val : ℤ); omega
      | ⟨1, _⟩ =>
        show (idx _).toInt + ((0 : ℕ) : ℤ) = (j.val : ℤ)
        rw [h]
        have : (128#32).toInt = 128 := rfl
        omega
  by_cases hj : j.val = 128
  · rw [if_pos hj]
    exact Routing.scatter_set_hit _ x idx u _ v (fun k _ => hu k) (ix1 i) ((key _).2 ⟨rfl, hj⟩)
  · rw [if_neg hj]
    exact Routing.scatter_set_miss _ x idx u _ fun k q => hj ((key k).1 q).2

/-- Adding up a list from the left, in `EReal`. -/
theorem foldl_add_eq {ι : Type} (l : List ι) (f : ι → EReal) (z : EReal) :
    l.foldl (fun r n => r + f n) z = z + (l.map f).sum := by
  induction l generalizing z with
  | nil => simp
  | cons a l ih => rw [List.foldl_cons, ih, List.map_cons, List.sum_cons, add_assoc]

/-- The running sum along the columns: entry `j` is the sum of the entries up to `j`. -/
theorem cumsum_at (x : FVec Ideal S16384x128 .f32) (z : FVec Ideal S_ .f32) (hz : ∀ k, z k = (0 : EReal))
    (i : Fin 16384) (j : Fin 128) :
    (Host.reduceWindowAdd ![1, 128] ![1, 1] ![0, 127] ![0, 0] x z
      reduceWindows_S16384x128_S16384x128_w1s1p0_0_w128s1p127_0 h_S_ (ix2 i j) : EReal)
      = ∑ k : Fin 128, if k.val ≤ j.val then (x (ix2 i k) : EReal) else 0 := by
  have step : (Host.reduceWindowAdd ![1, 128] ![1, 1] ![0, 127] ![0, 0] x z
      reduceWindows_S16384x128_S16384x128_w1s1p0_0_w128s1p127_0 h_S_ (ix2 i j) : EReal)
      = ∑ w : (⟨2, ![1, 128]⟩ : Shape).Idx,
          (if h : 127 ≤ j.val + (w 1).val ∧ j.val + (w 1).val - 127 < 128 then
            (x (ix2 i ⟨j.val + (w 1).val - 127, h.2⟩) : EReal) else 0) := by
    rw [← Equiv.sum_comp (⟨2, ![1, 128]⟩ : Shape).rowMajor.symm, ← List.sum_ofFn, List.ofFn_eq_map]
    refine (foldl_add_eq _ _ _).trans ?_
    rw [hz, zero_add]
    refine congrArg List.sum (List.map_congr_left fun n _ => ?_)
    have w0 : ((⟨2, ![1, 128]⟩ : Shape).rowMajor.symm n 0).val < 1 := ((⟨2, ![1, 128]⟩ : Shape).rowMajor.symm n 0).isLt
    by_cases h : 127 ≤ j.val + ((⟨2, ![1, 128]⟩ : Shape).rowMajor.symm n 1).val ∧ j.val + ((⟨2, ![1, 128]⟩ : Shape).rowMajor.symm n 1).val - 127 < 128
    · rw [dif_pos h]
      refine (dif_pos (?_ : ∀ a : Fin 2, _)).trans ?_
      · intro a
        match a with
        | ⟨0, _⟩ =>
          show 0 ≤ i.val * 1 + ((⟨2, ![1, 128]⟩ : Shape).rowMajor.symm n 0).val ∧ i.val * 1 + ((⟨2, ![1, 128]⟩ : Shape).rowMajor.symm n 0).val - 0 < 16384
          have := i.isLt
          omega
        | ⟨1, _⟩ =>
          show 127 ≤ j.val * 1 + ((⟨2, ![1, 128]⟩ : Shape).rowMajor.symm n 1).val ∧ j.val * 1 + ((⟨2, ![1, 128]⟩ : Shape).rowMajor.symm n 1).val - 127 < 128
          omega
      · refine congrArg x (funext fun a => Fin.ext ?_)
        match a with
        | ⟨0, _⟩ => show i.val * 1 + ((⟨2, ![1, 128]⟩ : Shape).rowMajor.symm n 0).val - 0 = i.val; omega
        | ⟨1, _⟩ => show j.val * 1 + ((⟨2, ![1, 128]⟩ : Shape).rowMajor.symm n 1).val - 127 = j.val + ((⟨2, ![1, 128]⟩ : Shape).rowMajor.symm n 1).val - 127; omega
    · rw [dif_neg h]
      refine (dif_neg (fun q => h ?_)).trans rfl
      have q1 : 127 ≤ j.val * 1 + ((⟨2, ![1, 128]⟩ : Shape).rowMajor.symm n 1).val ∧ j.val * 1 + ((⟨2, ![1, 128]⟩ : Shape).rowMajor.symm n 1).val - 127 < 128 := q 1
      omega
  rw [step, sum_idx2, Fin.sum_univ_one]
  show (∑ b : Fin 128, (if h : 127 ≤ j.val + b.val ∧ j.val + b.val - 127 < 128 then
    (x (ix2 i ⟨j.val + b.val - 127, h.2⟩) : EReal) else 0)) = _
  have hj := j.isLt
  rw [← Finset.sum_filter, Finset.sum_dite, Finset.sum_const_zero, add_zero]
  refine Finset.sum_bij (fun b _ => ⟨j.val + b.1.val - 127, ((Finset.mem_filter.1 b.2).2).2⟩) ?_ ?_ ?_ ?_
  · intro b _
    have hb := (Finset.mem_filter.1 b.2).2
    have := b.1.isLt
    exact Finset.mem_filter.2 ⟨Finset.mem_univ _, by show j.val + b.1.val - 127 ≤ j.val; omega⟩
  · intro b _ b' _ e
    have hb := (Finset.mem_filter.1 b.2).2
    have hb' := (Finset.mem_filter.1 b'.2).2
    have e' : j.val + b.1.val - 127 = j.val + b'.1.val - 127 := congrArg Fin.val e
    exact Subtype.ext (Fin.ext (by omega))
  · intro k hk
    have hk' := (Finset.mem_filter.1 hk).2
    refine ⟨⟨⟨k.val + 127 - j.val, by omega⟩, Finset.mem_filter.2 ⟨Finset.mem_univ _, ?_⟩⟩, Finset.mem_attach _ _, ?_⟩
    · have := k.isLt
      show 127 ≤ j.val + (k.val + 127 - j.val) ∧ j.val + (k.val + 127 - j.val) - 127 < 128
      omega
    · refine Fin.ext ?_
      show j.val + (k.val + 127 - j.val) - 127 = k.val
      omega
  · intro b _
    rfl
end Cert.Ref
-- ==== Proof.Take.lean ====
module
public import proofs.«01_k».proof.Proof.Moves
@[expose] public section
set_option maxRecDepth 16384
noncomputable section
namespace Cert.Ref
open Cert.ReferenceIdeal Cert.ReferenceIdeal.Gen Idealize.ShloMosaic

variable {F : FTy → Type} [FloatOps F]

/-- The column numbers with negative ones counted from the end of `m` columns, one word per entry. -/
def wrapped (m : BitVec 32) (idx : IVec S16384x128 32) : IVec S16384x128x1 32 :=
  shapeCast S16384x128x1 (select (cmpi .slt idx (broadcastInDim S16384x128 ![] bcast_S_S16384x128 (constantI S_ 32 0#32)))
    (addi idx (broadcastInDim S16384x128 ![] bcast_S_S16384x128 (constantI S_ 32 m))) idx) shapeCasts_S16384x128_S16384x128x1

/-- Which column numbers lie between zero and `m`. -/
def inside (m : BitVec 32) (w : IVec S16384x128x1 32) : IVec S16384x128 1 :=
  Host.reduce IntOp.andi
    (andi (cmpi .sge w (broadcastInDim S16384x128x1 ![] bcast_S_S16384x128x1 (constantI S_ 32 0#32)))
      (cmpi .sle w (broadcastInDim S16384x128x1 ![0, 1, 2] bcast_S1x1x1_S16384x128x1_0_1_2
        (broadcastInDim S1x1x1 ![2] bcast_S1_S1x1x1_2 (constantI S1 32 m)))))
    (constantI S_ 1 1#1) reducesTo_S16384x128x1_S16384x128_d2 h_S_

/-- The entries of an array of 129 columns at given column numbers, row by row. -/
def take129 (x : FVec F S16384x129 .f32) (idx : IVec S16384x128 32) : FVec F S16384x128 .f32 :=
  select (inside 128#32 (wrapped 129#32 idx))
    (Host.gather gather_S16384x129_S16384x128x1_S16384x128_n_1_0_0_1_2_11 x (wrapped 129#32 idx))
    (broadcastInDim S16384x128 ![] bcast_S_S16384x128 (constant S_ .f32 0x7FC00000#32))

/-- The entries of an array of 128 columns at given column numbers, row by row. -/
def take128 (x : FVec F S16384x128 .f32) (idx : IVec S16384x128 32) : FVec F S16384x128 .f32 :=
  select (inside 127#32 (wrapped 128#32 idx))
    (Host.gather gather_S16384x128_S16384x128x1_S16384x128_n_1_0_0_1_2_11 x (wrapped 128#32 idx))
    (broadcastInDim S16384x128 ![] bcast_S_S16384x128 (constant S_ .f32 0x7FC00000#32))

/-- A small word is not negative. -/
theorem slt_zero (n : ℕ) (hn : n < 129) : IntOp.cmpi .slt (BitVec.ofNat 32 n) 0#32 = 0#1 := by
  have : ∀ k : Fin 129, IntOp.cmpi .slt (BitVec.ofNat 32 k.val) 0#32 = 0#1 := by decide +kernel
  exact this ⟨n, hn⟩

/-- A column number that is not negative is kept. -/
theorem wrapped_at (m : BitVec 32) (idx : IVec S16384x128 32) (i : Fin 16384) (j : Fin 128) (n : ℕ) (hn : n < 129)
    (h : idx (ix2 i j) = BitVec.ofNat 32 n) : wrapped m idx (ix3 i j 0) = BitVec.ofNat 32 n := by
  pointwise [wrapped]
  rw [h, slt_zero n hn]
  rfl

/-- A column number between zero and `m` is recognised. -/
theorem inside_at (m : ℕ) (hm : m < 129) (w : IVec S16384x128x1 32) (i : Fin 16384) (j : Fin 128) (n : ℕ) (hn : n ≤ m)
    (h : w (ix3 i j 0) = BitVec.ofNat 32 n) : inside (BitVec.ofNat 32 m) w (ix2 i j) = 1#1 := by
  have k : ∀ (a : Fin 129) (b : Fin 129), a ≤ b →
      IntOp.andi 1#1 (IntOp.andi (IntOp.cmpi .sge (BitVec.ofNat 32 a.val) 0#32) (IntOp.cmpi .sle (BitVec.ofNat 32 a.val) (BitVec.ofNat 32 b.val))) = 1#1 := by
    decide +kernel
  pointwise [inside]
  rw [show (Finset.univ : Finset (Fin 1)) = {0} from rfl, Finset.fold_singleton, h]
  have := k ⟨n, by omega⟩ ⟨m, hm⟩ hn
  revert this
  generalize IntOp.andi (IntOp.cmpi .sge (BitVec.ofNat 32 n) 0#32) (IntOp.cmpi .sle (BitVec.ofNat 32 n) (BitVec.ofNat 32 m)) = b
  revert b
  decide

/-- A choice between two arrays, read at one entry where the first is chosen. -/
theorem select_one {s : Shape} {α : Type} (c : IVec s 1) (a b : s.Idx → α) (k : s.Idx) (h : c k = 1#1) :
    select c a b k = a k := by
  show Scalar.select (c k) (a k) (b k) = a k
  rw [h]
  rfl

/-- The entry taken when the column number is `n`, from 129 columns. -/
theorem take129_at (x : FVec Ideal S16384x129 .f32) (idx : IVec S16384x128 32) (i : Fin 16384) (j : Fin 128)
    (n : ℕ) (hn : n < 129) (h : idx (ix2 i j) = BitVec.ofNat 32 n) :
    (take129 x idx (ix2 i j) : EReal) = x (ix2 i ⟨n, hn⟩) := by
  unfold take129
  rw [select_one _ _ _ _ (inside_at 128 (by omega) _ i j n (by omega) (wrapped_at _ idx i j n (by omega) h))]
  exact gather129_at x _ i j n hn (wrapped_at _ idx i j n hn h)

/-- The entry taken when the column number is `n`, from 128 columns. -/
theorem take128_at (x : FVec Ideal S16384x128 .f32) (idx : IVec S16384x128 32) (i : Fin 16384) (j : Fin 128)
    (n : ℕ) (hn : n < 128) (h : idx (ix2 i j) = BitVec.ofNat 32 n) :
    (take128 x idx (ix2 i j) : EReal) = x (ix2 i ⟨n, hn⟩) := by
  unfold take128
  rw [select_one _ _ _ _ (inside_at 127 (by omega) _ i j n (by omega) (wrapped_at _ idx i j n (by omega) h))]
  exact gather128_at x _ i j n hn (wrapped_at _ idx i j n (by omega) h)
end Cert.Ref
-- ==== Proof.RefArrays.lean ====
module
public import proofs.«01_k».proof.Proof.RefRun
public import proofs.«01_k».proof.Proof.Take
@[expose] public section
set_option maxRecDepth 16384
noncomputable section
namespace Cert.Ref
open Cert.ReferenceIdeal Cert.ReferenceIdeal.Gen Idealize.ShloMosaic Idealize.ShloMosaic.TcCoe Idealize.ShloMosaic.StableHlo

/-- The contents at the ideal values. -/
abbrev Vals : Type := Valuation τ sig (Elt Ideal)

/-- What a stage leaves in a buffer is what the whole run leaves there, when no later stage writes it. -/
theorem fin_stage {F : FTy → Type} [FloatOps F] (k : ℕ) (s : Ops F) (V : Valuation τ sig (Elt F)) (r : Ref sig .tc)
    (hr : r ∉ (written.drop (k + 1)).flatten) (hs : stages[k]? = some s) :
    fin V (Proc.devRef .tc r) = after s (upTo k V) (Proc.devRef .tc r) := by
  rw [← upTo_eq_fin (k + 1) V r hr, upTo_succ k V s hs]

variable (V : Vals)

/-- The inputs. -/
def A0 (i : Fin 16384) (j : Fin 256) : EReal := (fin V (Proc.devRef .tc main_arg0) : FVec Ideal S16384x256 .f32) (ix2 i j)

/-- The actions. -/
def A1 (i : Fin 16384) (j : Fin 16) : EReal := (fin V (Proc.devRef .tc main_arg1) : FVec Ideal S16384x16 .f32) (ix2 i j)

/-- The first layer's weights. -/
def A2 (i : Fin 1024) (j : Fin 256) : EReal := (fin V (Proc.devRef .tc main_arg2) : FVec Ideal S1024x256 .f32) (ix2 i j)

/-- The first layer's shifts. -/
def A3 (i : Fin 1024) : EReal := (fin V (Proc.devRef .tc main_arg3) : FVec Ideal S1024 .f32) (ix1 i)

/-- The first normalisation's factors. -/
def A4 (i : Fin 1024) : EReal := (fin V (Proc.devRef .tc main_arg4) : FVec Ideal S1024 .f32) (ix1 i)

/-- The first normalisation's shifts. -/
def A5 (i : Fin 1024) : EReal := (fin V (Proc.devRef .tc main_arg5) : FVec Ideal S1024 .f32) (ix1 i)

/-- The second layer's weights. -/
def A6 (i : Fin 1024) (j : Fin 1040) : EReal := (fin V (Proc.devRef .tc main_arg6) : FVec Ideal S1024x1040 .f32) (ix2 i j)

/-- The second layer's shifts. -/
def A7 (i : Fin 1024) : EReal := (fin V (Proc.devRef .tc main_arg7) : FVec Ideal S1024 .f32) (ix1 i)

/-- The second normalisation's factors. -/
def A8 (i : Fin 1024) : EReal := (fin V (Proc.devRef .tc main_arg8) : FVec Ideal S1024 .f32) (ix1 i)

/-- The second normalisation's shifts. -/
def A9 (i : Fin 1024) : EReal := (fin V (Proc.devRef .tc main_arg9) : FVec Ideal S1024 .f32) (ix1 i)

/-- The last layer's weights. -/
def A10 (i : Fin 383) (j : Fin 1024) : EReal := (fin V (Proc.devRef .tc main_arg10) : FVec Ideal S383x1024 .f32) (ix2 i j)

/-- The last layer's shifts. -/
def A11 (i : Fin 383) : EReal := (fin V (Proc.devRef .tc main_arg11) : FVec Ideal S383 .f32) (ix1 i)

/-- The scale's weights. -/
def A12 (i : Fin 1) (j : Fin 1024) : EReal := (fin V (Proc.devRef .tc main_arg12) : FVec Ideal S1x1024 .f32) (ix2 i j)

/-- The scale's shift. -/
def A13 (i : Fin 1) : EReal := (fin V (Proc.devRef .tc main_arg13) : FVec Ideal S1 .f32) (ix1 i)

/-- The offset's weights. -/
def A14 (i : Fin 1) (j : Fin 1024) : EReal := (fin V (Proc.devRef .tc main_arg14) : FVec Ideal S1x1024 .f32) (ix2 i j)

/-- The offset's shift. -/
def A15 (i : Fin 1) : EReal := (fin V (Proc.devRef .tc main_arg15) : FVec Ideal S1 .f32) (ix1 i)

/-- The first layer. -/
def h1 (i : Fin 16384) (j : Fin 1024) : EReal := (fin V (Proc.devRef .tc main_v4) : FVec Ideal S16384x1024 .f32) (ix2 i j)

/-- The first layer normalised. -/
def x1 (i : Fin 16384) (j : Fin 1024) : EReal := (fin V (Proc.devRef .tc main_v29) : FVec Ideal S16384x1024 .f32) (ix2 i j)

/-- The second layer. -/
def h2 (i : Fin 16384) (j : Fin 1024) : EReal := (fin V (Proc.devRef .tc main_v35) : FVec Ideal S16384x1024 .f32) (ix2 i j)

/-- The second layer normalised. -/
def x2 (i : Fin 16384) (j : Fin 1024) : EReal := (fin V (Proc.devRef .tc main_v60) : FVec Ideal S16384x1024 .f32) (ix2 i j)

/-- The last layer. -/
def par (i : Fin 16384) (j : Fin 383) : EReal := (fin V (Proc.devRef .tc main_v65) : FVec Ideal S16384x383 .f32) (ix2 i j)

/-- The scale. -/
def sa (i : Fin 16384) (j : Fin 1) : EReal := (fin V (Proc.devRef .tc main_v71) : FVec Ideal S16384x1 .f32) (ix2 i j)

/-- The offset. -/
def sb (i : Fin 16384) (j : Fin 1) : EReal := (fin V (Proc.devRef .tc main_v76) : FVec Ideal S16384x1 .f32) (ix2 i j)

/-- The width group. -/
def gW (i : Fin 16384) (j : Fin 128) : EReal := (fin V (Proc.devRef .tc main_v77) : FVec Ideal S16384x128 .f32) (ix2 i j)

/-- The height group. -/
def gH (i : Fin 16384) (j : Fin 128) : EReal := (fin V (Proc.devRef .tc main_v78) : FVec Ideal S16384x128 .f32) (ix2 i j)

/-- The slope group. -/
def gD (i : Fin 16384) (j : Fin 127) : EReal := (fin V (Proc.devRef .tc main_v79) : FVec Ideal S16384x127 .f32) (ix2 i j)

/-- The largest of the width group. -/
def tW (i : Fin 16384) : EReal := (fin V (Proc.devRef .tc main_v82) : FVec Ideal S16384 .f32) (ix1 i)

/-- The exponentials of the width group. -/
def eW (i : Fin 16384) (j : Fin 128) : EReal := (fin V (Proc.devRef .tc main_v86) : FVec Ideal S16384x128 .f32) (ix2 i j)

/-- The bin widths. -/
def pW (i : Fin 16384) (j : Fin 128) : EReal := (fin V (Proc.devRef .tc main_v94) : FVec Ideal S16384x128 .f32) (ix2 i j)

/-- The largest of the height group. -/
def tH (i : Fin 16384) : EReal := (fin V (Proc.devRef .tc main_v97) : FVec Ideal S16384 .f32) (ix1 i)

/-- The exponentials of the height group. -/
def eH (i : Fin 16384) (j : Fin 128) : EReal := (fin V (Proc.devRef .tc main_v101) : FVec Ideal S16384x128 .f32) (ix2 i j)

/-- The bin heights. -/
def pH (i : Fin 16384) (j : Fin 128) : EReal := (fin V (Proc.devRef .tc main_v109) : FVec Ideal S16384x128 .f32) (ix2 i j)

/-- Softplus of the slope group. -/
def sft (i : Fin 16384) (j : Fin 127) : EReal := (fin V (Proc.devRef .tc main_v110) : FVec Ideal S16384x127 .f32) (ix2 i j)

/-- The inner slopes. -/
def mid (i : Fin 16384) (j : Fin 127) : EReal := (fin V (Proc.devRef .tc main_v112) : FVec Ideal S16384x127 .f32) (ix2 i j)

/-- The outer slope. -/
def edge (i : Fin 16384) (j : Fin 1) : EReal := (fin V (Proc.devRef .tc main_v113) : FVec Ideal S16384x1 .f32) (ix2 i j)

/-- The slopes. -/
def sl (i : Fin 16384) (j : Fin 129) : EReal := (fin V (Proc.devRef .tc main_v114) : FVec Ideal S16384x129 .f32) (ix2 i j)

/-- The zero column. -/
def z0 (i : Fin 16384) (j : Fin 1) : EReal := (fin V (Proc.devRef .tc main_v115) : FVec Ideal S16384x1 .f32) (ix2 i j)

/-- The running sums of the widths. -/
def cW (i : Fin 16384) (j : Fin 128) : EReal := (fin V (Proc.devRef .tc main_v116) : FVec Ideal S16384x128 .f32) (ix2 i j)

/-- The running sums of the widths from zero. -/
def qW (i : Fin 16384) (j : Fin 129) : EReal := (fin V (Proc.devRef .tc main_v117) : FVec Ideal S16384x129 .f32) (ix2 i j)

/-- The knots across. -/
def kW (i : Fin 16384) (j : Fin 129) : EReal := (fin V (Proc.devRef .tc main_v120) : FVec Ideal S16384x129 .f32) (ix2 i j)

/-- The widths between knots. -/
def wid (i : Fin 16384) (j : Fin 128) : EReal := (fin V (Proc.devRef .tc main_v123) : FVec Ideal S16384x128 .f32) (ix2 i j)

/-- The running sums of the heights. -/
def cH (i : Fin 16384) (j : Fin 128) : EReal := (fin V (Proc.devRef .tc main_v124) : FVec Ideal S16384x128 .f32) (ix2 i j)

/-- The running sums of the heights from zero. -/
def qH (i : Fin 16384) (j : Fin 129) : EReal := (fin V (Proc.devRef .tc main_v125) : FVec Ideal S16384x129 .f32) (ix2 i j)

/-- The knots up. -/
def kH (i : Fin 16384) (j : Fin 129) : EReal := (fin V (Proc.devRef .tc main_v129) : FVec Ideal S16384x129 .f32) (ix2 i j)

/-- The heights between knots. -/
def hei (i : Fin 16384) (j : Fin 128) : EReal := (fin V (Proc.devRef .tc main_v132) : FVec Ideal S16384x128 .f32) (ix2 i j)

/-- The left knot across. -/
def t5 (i : Fin 16384) (j : Fin 128) : EReal := (fin V (Proc.devRef .tc main_v147) : FVec Ideal S16384x128 .f32) (ix2 i j)

/-- The width of the bin. -/
def t6 (i : Fin 16384) (j : Fin 128) : EReal := (fin V (Proc.devRef .tc main_v148) : FVec Ideal S16384x128 .f32) (ix2 i j)

/-- The left knot up. -/
def t7 (i : Fin 16384) (j : Fin 128) : EReal := (fin V (Proc.devRef .tc main_v149) : FVec Ideal S16384x128 .f32) (ix2 i j)

/-- The height of the bin. -/
def t8 (i : Fin 16384) (j : Fin 128) : EReal := (fin V (Proc.devRef .tc main_v150) : FVec Ideal S16384x128 .f32) (ix2 i j)

/-- The mean slopes. -/
def rat (i : Fin 16384) (j : Fin 128) : EReal := (fin V (Proc.devRef .tc main_v151) : FVec Ideal S16384x128 .f32) (ix2 i j)

/-- The mean slope of the bin. -/
def t9 (i : Fin 16384) (j : Fin 128) : EReal := (fin V (Proc.devRef .tc main_v152) : FVec Ideal S16384x128 .f32) (ix2 i j)

/-- The slope at the left knot. -/
def t10 (i : Fin 16384) (j : Fin 128) : EReal := (fin V (Proc.devRef .tc main_v153) : FVec Ideal S16384x128 .f32) (ix2 i j)

/-- The slopes from the second on. -/
def rsl (i : Fin 16384) (j : Fin 128) : EReal := (fin V (Proc.devRef .tc main_v154) : FVec Ideal S16384x128 .f32) (ix2 i j)

/-- The slope at the right knot. -/
def t11 (i : Fin 16384) (j : Fin 128) : EReal := (fin V (Proc.devRef .tc main_v155) : FVec Ideal S16384x128 .f32) (ix2 i j)

/-- The result. -/
def out (i : Fin 16384) (j : Fin 128) : EReal := (fin V (Proc.devRef .tc main_v175) : FVec Ideal S16384x128 .f32) (ix2 i j)

/-- The places of the quantiles. -/
def tau (j : Fin 128) : EReal := (fin V (Proc.devRef .tc main_v137) : FVec Ideal S128 .f32) (ix1 j)

/-- The bins. -/
def bin (i : Fin 16384) (j : Fin 128) : BitVec 32 := (fin V (Proc.devRef .tc main_v146) : IVec S16384x128 32) (ix2 i j)

end Cert.Ref
-- ==== Proof.RefVals.lean ====
module
public import proofs.«01_k».proof.Proof.RefArrays
@[expose] public section
set_option maxRecDepth 16384
noncomputable section
namespace Cert.Ref
open Cert.ReferenceIdeal Cert.ReferenceIdeal.Gen Idealize.ShloMosaic Idealize.ShloMosaic.TcCoe Idealize.ShloMosaic.StableHlo
variable (V : Vals)

/-- The first layer, at an entry. -/
theorem h1_eq (i : Fin 16384) (j : Fin 1024) : h1 V i j = ∑ x : Fin 256, A0 V i x * A2 V j x + A3 V j := by
  unfold h1
  have e := fin_stage 0 dense1 V main_v4 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The first layer normalised, at an entry. -/
theorem x1_eq (i : Fin 16384) (j : Fin 1024) : x1 V i j = max (Ideal.div (h1 V i j - Ideal.div (∑ x, h1 V i x) (Ideal.ofBits .f32 1149239296#32)) (Ideal.sqrt (Ideal.div (∑ x, (h1 V i x - Ideal.div (∑ x, h1 V i x) (Ideal.ofBits .f32 1149239296#32)) * (h1 V i x - Ideal.div (∑ x, h1 V i x) (Ideal.ofBits .f32 1149239296#32))) (Ideal.ofBits .f32 1149239296#32) + Ideal.ofBits .f32 925353388#32)) * A4 V j + A5 V j) 0 := by
  unfold x1
  have e := fin_stage 1 norm1 V main_v29 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The second layer, at an entry. -/
theorem h2_eq (i : Fin 16384) (j : Fin 1024) : h2 V i j = ∑ x : Fin 1024, x1 V i x * A6 V j ⟨x.val, by omega⟩ + ∑ x : Fin 16, A1 V i x * A6 V j ⟨1024 + x.val, by omega⟩ + A7 V j := by
  unfold h2
  have e := fin_stage 2 dense2 V main_v35 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The second layer normalised, at an entry. -/
theorem x2_eq (i : Fin 16384) (j : Fin 1024) : x2 V i j = max (Ideal.div (h2 V i j - Ideal.div (∑ x, h2 V i x) (Ideal.ofBits .f32 1149239296#32)) (Ideal.sqrt (Ideal.div (∑ x, (h2 V i x - Ideal.div (∑ x, h2 V i x) (Ideal.ofBits .f32 1149239296#32)) * (h2 V i x - Ideal.div (∑ x, h2 V i x) (Ideal.ofBits .f32 1149239296#32))) (Ideal.ofBits .f32 1149239296#32) + Ideal.ofBits .f32 925353388#32)) * A8 V j + A9 V j) 0 := by
  unfold x2
  have e := fin_stage 3 norm2 V main_v60 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The last layer, at an entry. -/
theorem par_eq (i : Fin 16384) (j : Fin 383) : par V i j = ∑ x : Fin 1024, x2 V i x * A10 V j x + A11 V j := by
  unfold par
  have e := fin_stage 4 params V main_v65 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The scale, at an entry. -/
theorem sa_eq (i : Fin 16384) (j : Fin 1) : sa V i j = Ideal.exp (∑ x : Fin 1024, x2 V i x * A12 V 0 x + A13 V 0) := by
  unfold sa
  have e := fin_stage 5 scales V main_v71 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The offset, at an entry. -/
theorem sb_eq (i : Fin 16384) (j : Fin 1) : sb V i j = ∑ x : Fin 1024, x2 V i x * A14 V 0 x + A15 V 0 := by
  unfold sb
  have e := fin_stage 5 scales V main_v76 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The width group, at an entry. -/
theorem gW_eq (i : Fin 16384) (j : Fin 128) : gW V i j = par V i ⟨j.val, by omega⟩ := by
  unfold gW
  have e := fin_stage 6 split V main_v77 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The height group, at an entry. -/
theorem gH_eq (i : Fin 16384) (j : Fin 128) : gH V i j = par V i ⟨128 + j.val, by omega⟩ := by
  unfold gH
  have e := fin_stage 6 split V main_v78 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The slope group, at an entry. -/
theorem gD_eq (i : Fin 16384) (j : Fin 127) : gD V i j = par V i ⟨256 + j.val, by omega⟩ := by
  unfold gD
  have e := fin_stage 6 split V main_v79 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The exponentials of the width group, at an entry. -/
theorem eW_eq (i : Fin 16384) (j : Fin 128) : eW V i j = Ideal.exp (gW V i j - tW V i) := by
  unfold eW
  have e := fin_stage 8 expW V main_v86 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The bin widths, at an entry. -/
theorem pW_eq (i : Fin 16384) (j : Fin 128) : pW V i j = Ideal.ofBits .f32 981668463#32 + Ideal.ofBits .f32 1063205732#32 * Ideal.div (eW V i j) (∑ x : Fin 128, eW V i x) := by
  unfold pW
  have e := fin_stage 9 softW V main_v94 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The exponentials of the height group, at an entry. -/
theorem eH_eq (i : Fin 16384) (j : Fin 128) : eH V i j = Ideal.exp (gH V i j - tH V i) := by
  unfold eH
  have e := fin_stage 11 expH V main_v101 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The bin heights, at an entry. -/
theorem pH_eq (i : Fin 16384) (j : Fin 128) : pH V i j = Ideal.ofBits .f32 981668463#32 + Ideal.ofBits .f32 1063205732#32 * Ideal.div (eH V i j) (∑ x : Fin 128, eH V i x) := by
  unfold pH
  have e := fin_stage 12 softH V main_v109 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The inner slopes, at an entry. -/
theorem mid_eq (i : Fin 16384) (j : Fin 127) : mid V i j = Ideal.ofBits .f32 981668463#32 + sft V i j := by
  unfold mid
  have e := fin_stage 14 ends V main_v112 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The outer slope, at an entry. -/
theorem edge_eq (i : Fin 16384) (j : Fin 1) : edge V i j = Ideal.ofBits .f32 1057631375#32 := by
  unfold edge
  have e := fin_stage 14 ends V main_v113 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise

/-- The zero column, at an entry. -/
theorem z0_eq (i : Fin 16384) (j : Fin 1) : z0 V i j = 0 := by
  unfold z0
  have e := fin_stage 16 sumW V main_v115 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise

/-- The widths between knots, at an entry. -/
theorem wid_eq (i : Fin 16384) (j : Fin 128) : wid V i j = kW V i ⟨1 + j.val, by omega⟩ - kW V i ⟨j.val, by omega⟩ := by
  unfold wid
  have e := fin_stage 19 widths V main_v123 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The knots up, at an entry. -/
theorem kH_eq (i : Fin 16384) (j : Fin 129) : kH V i j = sa V i 0 * qH V i j + sb V i 0 := by
  unfold kH
  have e := fin_stage 22 knotsH V main_v129 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The heights between knots, at an entry. -/
theorem hei_eq (i : Fin 16384) (j : Fin 128) : hei V i j = kH V i ⟨1 + j.val, by omega⟩ - kH V i ⟨j.val, by omega⟩ := by
  unfold hei
  have e := fin_stage 23 heights V main_v132 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The mean slopes, at an entry. -/
theorem rat_eq (i : Fin 16384) (j : Fin 128) : rat V i j = Ideal.div (hei V i j) (wid V i j) := by
  unfold rat
  have e := fin_stage 30 ratio V main_v151 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The slopes from the second on, at an entry. -/
theorem rsl_eq (i : Fin 16384) (j : Fin 128) : rsl V i j = sl V i ⟨1 + j.val, by omega⟩ := by
  unfold rsl
  have e := fin_stage 33 right V main_v154 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

end Cert.Ref
-- ==== Proof.RefKnots.lean ====
module
public import proofs.«01_k».proof.Proof.RefVals
@[expose] public section
set_option maxRecDepth 16384
noncomputable section
namespace Cert.Ref
open Cert.ReferenceIdeal Cert.ReferenceIdeal.Gen Idealize.ShloMosaic Idealize.ShloMosaic.TcCoe Idealize.ShloMosaic.StableHlo
variable (V : Vals)

/-- Softplus of the slope group, at an entry. -/
theorem sft_eq (i : Fin 16384) (j : Fin 127) : sft V i j = max (gD V i j) 0 + Ideal.log1p (Ideal.exp (-max (gD V i j) (-gD V i j))) := by
  unfold sft
  have e := fin_stage 13 soft V main_v110 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rw [if_neg (not_not.2 rfl)]
  rfl

/-- The running sums of the widths from zero, at an entry. -/
theorem qW_eq (i : Fin 16384) (j : Fin 129) : qW V i j = if h : j.val < 1 then z0 V i ⟨j.val, h⟩ else cW V i ⟨j.val - 1, by omega⟩ := by
  unfold qW
  have e := fin_stage 17 padW V main_v117 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  after_reads_simp
  simp (disch := decide) only [upTo_eq_fin]
  rfl

/-- The running sums of the heights from zero, at an entry. -/
theorem qH_eq (i : Fin 16384) (j : Fin 129) : qH V i j = if h : j.val < 1 then z0 V i ⟨j.val, h⟩ else cH V i ⟨j.val - 1, by omega⟩ := by
  unfold qH
  have e := fin_stage 21 padH V main_v125 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  after_reads_simp
  simp (disch := decide) only [upTo_eq_fin]
  rfl

/-- The running sums of the widths, at an entry. -/
theorem cW_eq (i : Fin 16384) (j : Fin 128) : cW V i j = ∑ k : Fin 128, if k.val ≤ j.val then pW V i k else 0 := by
  unfold cW
  have e := fin_stage 16 sumW V main_v116 (by decide) rfl
  revert e
  after_reads_simp
  try simp (disch := decide) only [upTo_eq_fin]
  try simp -implicitDefEqProofs only [StableHlo.TRef.toBuf, StableHlo.TRef.ofBuf, cast_cast, cast_eq]
  intro e
  rw [e]
  exact cumsum_at _ _ (fun k => by pointwise) i j

/-- The running sums of the heights, at an entry. -/
theorem cH_eq (i : Fin 16384) (j : Fin 128) : cH V i j = ∑ k : Fin 128, if k.val ≤ j.val then pH V i k else 0 := by
  unfold cH
  have e := fin_stage 20 sumH V main_v124 (by decide) rfl
  revert e
  after_reads_simp
  try simp (disch := decide) only [upTo_eq_fin]
  try simp -implicitDefEqProofs only [StableHlo.TRef.toBuf, StableHlo.TRef.ofBuf, cast_cast, cast_eq]
  intro e
  rw [e]
  exact cumsum_at _ _ (fun k => by pointwise) i j

/-- The knots across, at an entry. -/
theorem kW_eq (i : Fin 16384) (j : Fin 129) : kW V i j = if j.val = 128 then 1 else qW V i j := by
  unfold kW
  have e := fin_stage 18 knotsW V main_v120 (by decide) rfl
  revert e
  after_reads_simp
  try simp (disch := decide) only [upTo_eq_fin]
  try simp -implicitDefEqProofs only [StableHlo.TRef.toBuf, StableHlo.TRef.ofBuf, cast_cast, cast_eq]
  intro e
  rw [e]
  exact scatter_last _ _ _ 1 (fun k => by pointwise) (fun k => by pointwise) i j

/-- The place of quantile `j`. -/
theorem tau_eq (j : Fin 128) : tau V j = Ideal.div (((j.val : ℝ) : EReal) + Ideal.ofBits .f32 1056964608#32) (Ideal.ofBits .f32 1124073472#32) := by
  unfold tau
  have e := fin_stage 24 taus V main_v137 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rw [show (FloatOps.sitofp (F := Ideal) .f32 (BitVec.ofNat 32 j.val) : EReal) = ((((BitVec.ofNat 32 j.val).toInt : ℤ) : ℝ) : EReal) from rfl, toInt_small _ (by omega)]
  rfl

/-- The bin of quantile `j`: how many knots are not above it, less one. -/
theorem bin_eq (i : Fin 16384) (j : Fin 128) : bin V i j = IntOp.subi (Finset.fold IntOp.addi 0#32
    (fun x : Fin 129 => BitVec.setWidth 32 (BitVec.ofBool (decide (kW V i x ≤ tau V j)))) Finset.univ) 1#32 := by
  unfold bin
  have e := fin_stage 25 bins V main_v146 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The left knot across, when the bin is `n`. -/
theorem t5_eq (i : Fin 16384) (j : Fin 128) (n : ℕ) (hn : n < 129) (h : bin V i j = BitVec.ofNat 32 n) :
    t5 V i j = kW V i ⟨n, hn⟩ := by
  unfold t5
  have e := fin_stage 26 take5 V main_v147 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take129_at (fin V (Proc.devRef .tc main_v120)) (fin V (Proc.devRef .tc main_v146)) i j n hn h

/-- The width of the bin, when the bin is `n`. -/
theorem t6_eq (i : Fin 16384) (j : Fin 128) (n : ℕ) (hn : n < 128) (h : bin V i j = BitVec.ofNat 32 n) :
    t6 V i j = wid V i ⟨n, hn⟩ := by
  unfold t6
  have e := fin_stage 27 take6 V main_v148 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take128_at (fin V (Proc.devRef .tc main_v123)) (fin V (Proc.devRef .tc main_v146)) i j n hn h

/-- The left knot up, when the bin is `n`. -/
theorem t7_eq (i : Fin 16384) (j : Fin 128) (n : ℕ) (hn : n < 129) (h : bin V i j = BitVec.ofNat 32 n) :
    t7 V i j = kH V i ⟨n, hn⟩ := by
  unfold t7
  have e := fin_stage 28 take7 V main_v149 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take129_at (fin V (Proc.devRef .tc main_v129)) (fin V (Proc.devRef .tc main_v146)) i j n hn h

/-- The height of the bin, when the bin is `n`. -/
theorem t8_eq (i : Fin 16384) (j : Fin 128) (n : ℕ) (hn : n < 128) (h : bin V i j = BitVec.ofNat 32 n) :
    t8 V i j = hei V i ⟨n, hn⟩ := by
  unfold t8
  have e := fin_stage 29 take8 V main_v150 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take128_at (fin V (Proc.devRef .tc main_v132)) (fin V (Proc.devRef .tc main_v146)) i j n hn h

/-- The mean slope of the bin, when the bin is `n`. -/
theorem t9_eq (i : Fin 16384) (j : Fin 128) (n : ℕ) (hn : n < 128) (h : bin V i j = BitVec.ofNat 32 n) :
    t9 V i j = rat V i ⟨n, hn⟩ := by
  unfold t9
  have e := fin_stage 31 take9 V main_v152 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take128_at (fin V (Proc.devRef .tc main_v151)) (fin V (Proc.devRef .tc main_v146)) i j n hn h

/-- The slope at the left knot, when the bin is `n`. -/
theorem t10_eq (i : Fin 16384) (j : Fin 128) (n : ℕ) (hn : n < 129) (h : bin V i j = BitVec.ofNat 32 n) :
    t10 V i j = sl V i ⟨n, hn⟩ := by
  unfold t10
  have e := fin_stage 32 take10 V main_v153 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take129_at (fin V (Proc.devRef .tc main_v114)) (fin V (Proc.devRef .tc main_v146)) i j n hn h

/-- The slope at the right knot, when the bin is `n`. -/
theorem t11_eq (i : Fin 16384) (j : Fin 128) (n : ℕ) (hn : n < 128) (h : bin V i j = BitVec.ofNat 32 n) :
    t11 V i j = rsl V i ⟨n, hn⟩ := by
  unfold t11
  have e := fin_stage 34 take11 V main_v155 (by decide) rfl
  revert e
  after_reads_simp
  try simp (disch := decide) only [upTo_eq_fin]
  try simp -implicitDefEqProofs only [StableHlo.TRef.toBuf, StableHlo.TRef.ofBuf, cast_cast, cast_eq]
  intro e
  rw [e]
  exact take128_at (fin V (Proc.devRef .tc main_v154)) (fin V (Proc.devRef .tc main_v146)) i j n hn h

/-- The result, at an entry. -/
theorem out_eq (i : Fin 16384) (j : Fin 128) : out V i j = t7 V i j + Ideal.div (t8 V i j * (t9 V i j * (Ideal.div (tau V j - t5 V i j) (t6 V i j) * Ideal.div (tau V j - t5 V i j) (t6 V i j)) + t10 V i j * (Ideal.div (tau V j - t5 V i j) (t6 V i j) * (1 - Ideal.div (tau V j - t5 V i j) (t6 V i j))))) (t9 V i j + (t10 V i j + t11 V i j - Ideal.ofBits .f32 1073741824#32 * t9 V i j) * (Ideal.div (tau V j - t5 V i j) (t6 V i j) * (1 - Ideal.div (tau V j - t5 V i j) (t6 V i j)))) := by
  unfold out
  have e := fin_stage 35 spline V main_v175 (by decide) rfl
  revert e
  after_reads_simp
  try simp (disch := decide) only [upTo_eq_fin]
  try simp -implicitDefEqProofs only [StableHlo.TRef.toBuf, StableHlo.TRef.ofBuf, cast_cast, cast_eq]
  intro e
  rw [e]
  pointwise
  rfl

/-- The slopes: the outer one at both ends, the inner ones between. -/
theorem sl_eq (i : Fin 16384) (j : Fin 129) : sl V i j = if h : j.val < 1 then edge V i ⟨j.val, h⟩
    else if h' : j.val - 1 < 127 then mid V i ⟨j.val - 1, h'⟩ else edge V i ⟨j.val - 1 - 127, by omega⟩ := by
  unfold sl
  have e := fin_stage 15 slopes V main_v114 (by decide) rfl
  revert e
  after_reads_simp
  try simp (disch := decide) only [upTo_eq_fin]
  intro e
  rw [e]
  pointwise
  have e0 : ∀ r, upto slopes (upTo 15 V) 0 r = upTo 15 V r := fun _ => rfl
  simp only [e0]
  simp (disch := decide) only [upTo_eq_fin]
  rfl

end Cert.Ref
-- ==== Proof.RowMax.lean ====
module
public import proofs.«01_k».proof.Proof.RefArrays
public import proofs.«01_k».proof.Proof.Consts
public import Idealize.ShloMosaic.PureOps.Reduce
public import Idealize.ShloMosaic.PureOps.Ideal.Laws
@[expose] public section
set_option maxRecDepth 16384
noncomputable section
namespace Cert.Ref
open Cert.ReferenceIdeal Cert.ReferenceIdeal.Gen Idealize.ShloMosaic Idealize.ShloMosaic.TcCoe Idealize.ShloMosaic.StableHlo

/-- The largest entry of a row of real numbers is a real number. -/
theorem rowMax_real (x : FVec Ideal S16384x128 .f32) (b : FVec Ideal S_ .f32) (hb : ∀ k, (b k : EReal) = ⊥) (i : Fin 16384)
    (h : ∀ j, ∃ r : ℝ, (x (ix2 i j) : EReal) = r) :
    ∃ r : ℝ, (Host.reduce (FloatOps.maximumf (F := Ideal) (φ := .f32)) x b reducesTo_S16384x128_S16384_d1 h_S_ (ix1 i) : EReal) = r := by
  rw [Host.reduce_eq_fold, hb]
  have d : ∀ k : S16384x128.Idx, reducesTo_S16384x128_S16384_d1.drop k = ix1 (k 0) := by
    intro k; funext a
    match a with
    | ⟨0, _⟩ => rfl
  have up : ((Finset.univ.filter fun k => reducesTo_S16384x128_S16384_d1.drop k = ix1 i).fold max ⊥ x : EReal) < ⊤ := by
    rw [Finset.fold_max_lt]
    refine ⟨bot_lt_top, fun k hk => ?_⟩
    have hk' := (Finset.mem_filter.1 hk).2
    rw [d] at hk'
    have h0 : k 0 = i := congrFun hk' 0
    obtain ⟨r, hr⟩ := h (k 1)
    have hk2 : k = ix2 i (k 1) := by
      funext a
      match a with
      | ⟨0, _⟩ => exact h0
      | ⟨1, _⟩ => rfl
    have e : (x k : EReal) = r := (congrArg x hk2).trans hr
    exact lt_of_eq_of_lt e (EReal.coe_lt_top r)
  have lo : ⊥ < ((Finset.univ.filter fun k => reducesTo_S16384x128_S16384_d1.drop k = ix1 i).fold max ⊥ x : EReal) := by
    rw [Finset.lt_fold_max]
    obtain ⟨r, hr⟩ := h 0
    refine Or.inr ⟨ix2 i 0, Finset.mem_filter.2 ⟨Finset.mem_univ _, d _⟩, ?_⟩
    exact lt_of_lt_of_eq (EReal.bot_lt_coe r) hr.symm
  exact ⟨_, (EReal.coe_toReal up.ne lo.ne').symm⟩

/-- The greater of the smallest value and an array is the array, at one place. -/
theorem max_bot (a c : FVec Ideal S16384 .f32) (k : S16384.Idx) (ha : (a k : EReal) = ⊥) (r : EReal) (hc : (c k : EReal) = r) :
    (maximumf a c k : EReal) = r := by
  show max (a k : EReal) (c k : EReal) = r
  rw [ha, hc]
  exact bot_sup_eq r

variable (V : Vals)

/-- The largest of a row's width group is real when the group is. -/
theorem tW_real (i : Fin 16384) (h : ∀ j, ∃ r : ℝ, gW V i j = r) : ∃ r : ℝ, tW V i = r := by
  unfold tW
  have e := fin_stage 7 topW V main_v82 (by decide) rfl
  revert e
  after_reads_simp
  try simp (disch := decide) only [upTo_eq_fin]
  intro e
  rw [e]
  obtain ⟨r, hr⟩ := rowMax_real (fin V (Proc.devRef .tc main_v77)) (constant S_ .f32 0xFF800000#32) (fun k => by pointwise; exact Consts.wBot) i h
  refine ⟨r, ?_⟩
  exact max_bot _ _ (ix1 i) (by pointwise; exact Consts.wBot) r hr

/-- The largest of a row's height group is real when the group is. -/
theorem tH_real (i : Fin 16384) (h : ∀ j, ∃ r : ℝ, gH V i j = r) : ∃ r : ℝ, tH V i = r := by
  unfold tH
  have e := fin_stage 10 topH V main_v97 (by decide) rfl
  revert e
  after_reads_simp
  try simp (disch := decide) only [upTo_eq_fin]
  intro e
  rw [e]
  obtain ⟨r, hr⟩ := rowMax_real (fin V (Proc.devRef .tc main_v78)) (constant S_ .f32 0xFF800000#32) (fun k => by pointwise; exact Consts.wBot) i h
  refine ⟨r, ?_⟩
  exact max_bot _ _ (ix1 i) (by pointwise; exact Consts.wBot) r hr

end Cert.Ref
-- ==== Proof.RowSpline.lean ====
module

public import proofs.«01_k».proof.Proof.HalfVals
public import proofs.«01_k».proof.Proof.RefVals
public import proofs.«01_k».proof.Proof.RefKnots
public import proofs.«01_k».proof.Proof.RowMax

/-!
# The spline of one row

When the five groups of numbers of a row of the kernel are the reference's, and the two groups the bins
come from are real, the kernel's outputs in that row are the reference's.
-/

@[expose] public section
set_option maxRecDepth 16384
noncomputable section

namespace Cert.Row
open Idealize.ShloMosaic Cert.Ref
open scoped BigOperators

variable (V : Vals) (r : Fin 16384)

/-- The reference's running sums of widths are the ends the kernel computes. -/
theorem cW_end (hW : ∀ k, ∃ q : ℝ, gW V r k = q) (j : Fin 128) : cW V r j = Soft.kernelEnd (fun k => gW V r k) j := by
  rw [(Soft.ends_eq _ hW _ (tW_real V r hW)).1 j, cW_eq]
  simp only [pW_eq, eW_eq]
  rfl

/-- The reference's running sums of heights are the ends the kernel computes. -/
theorem cH_end (hH : ∀ k, ∃ q : ℝ, gH V r k = q) (j : Fin 128) : cH V r j = Soft.kernelEnd (fun k => gH V r k) j := by
  rw [(Soft.ends_eq _ hH _ (tH_real V r hH)).1 j, cH_eq]
  simp only [pH_eq, eH_eq]
  rfl

/-- A quantile as a real. -/
theorem tau_real (j : Fin 128) : tau V j = (((j.val + 1 / 2) / 128 : ℝ) : EReal) := by
  rw [tau_eq, Consts.wHalf, Consts.w128, ← EReal.coe_add, Norm.div_coe _ _ (by norm_num)]

/-- The kernel's quantiles are the reference's. -/
theorem tau_same (i : Fin 256) (j : Fin 128) : (Half.tau (F := Ideal) (ix2 i j) : EReal) = tau V j := by
  rw [Half.tau_at, tau_real, Consts.wHalf, Consts.wInv128, ← EReal.coe_add, ← EReal.coe_mul, mul_one_div]

/-- A quantile is not below zero. -/
theorem tau_nonneg (j : Fin 128) : 0 ≤ tau V j := by
  rw [tau_real, ← EReal.coe_zero, EReal.coe_le_coe_iff]
  positivity

/-- A quantile is below one. -/
theorem tau_lt_one (j : Fin 128) : tau V j < 1 := by
  rw [tau_real, ← EReal.coe_one, EReal.coe_lt_coe_iff, div_lt_one (by norm_num)]
  have : (j.val : ℝ) ≤ 127 := by exact_mod_cast (by omega : j.val ≤ 127)
  linarith

/-- The number two is above every quantile. -/
theorem tau_lt_two (j : Fin 128) : tau V j < Ideal.ofBits .f32 1073741824#32 := by
  rw [Consts.wTwo]
  refine (tau_lt_one V j).trans ?_
  rw [← EReal.coe_one, EReal.coe_lt_coe_iff]
  norm_num

/-- The first knot. -/
theorem kW_first : kW V r 0 = 0 := by
  rw [kW_eq, if_neg (by decide), qW_eq, dif_pos (by decide), z0_eq]

/-- The knots between the first and the last. -/
theorem kW_inner (k : ℕ) (hk : k < 127) : kW V r ⟨k + 1, by omega⟩ = cW V r ⟨k, by omega⟩ := by
  rw [kW_eq, if_neg (by simp only; omega), qW_eq, dif_neg (by simp)]
  rfl

/-- The last knot. -/
theorem kW_last : kW V r 128 = 1 := by
  rw [kW_eq, if_pos (by decide)]

/-- The columns the search looks at that are not above a quantile are those below one bin. -/
theorem exists_bin (hW : ∀ k, ∃ q : ℝ, gW V r k = q) (j : Fin 128) : ∃ n : Fin 128, ∀ k : Fin 128,
    (if k.val = 127 then Ideal.ofBits .f32 1073741824#32 else cW V r k) ≤ tau V j ↔ k < n := by
  refine Search.exists_bin _ (fun a b hab hb => ?_) (by rw [if_pos (by rfl)]; exact not_le.2 (tau_lt_two V j))
  have hb' : b.val ≠ 127 := fun h => by
    rw [if_pos h] at hb
    exact absurd hb (not_le.2 (tau_lt_two V j))
  have ha' : a.val ≠ 127 := fun h => by
    have := b.isLt
    have : a.val ≤ b.val := hab
    omega
  rw [if_neg hb'] at hb
  rw [if_neg ha']
  refine le_trans ?_ hb
  rw [cW_end V r hW, cW_end V r hW]
  exact (Soft.ends_eq _ hW _ (tW_real V r hW)).2 a b hab

/-- The reference's count gives that bin. -/
theorem ref_bin (j n : Fin 128) (h : ∀ k : Fin 128,
    (if k.val = 127 then Ideal.ofBits .f32 1073741824#32 else cW V r k) ≤ tau V j ↔ k < n) :
    bin V r j = BitVec.ofNat 32 n.val := by
  rw [bin_eq, ← Search.count_all n]
  have e : ∀ x : Fin 129, kW V r x ≤ tau V j ↔ x.val ≤ n.val := by
    intro x
    obtain ⟨x, hx⟩ := x
    rcases Nat.eq_zero_or_pos x with h0 | h0
    · subst h0
      have : kW V r ⟨0, hx⟩ = 0 := kW_first V r
      rw [this]
      exact ⟨fun _ => Nat.zero_le _, fun _ => tau_nonneg V j⟩
    · obtain ⟨k, rfl⟩ : ∃ k, x = k + 1 := ⟨x - 1, by omega⟩
      by_cases h1 : k = 127
      · subst h1
        have : kW V r ⟨127 + 1, hx⟩ = 1 := kW_last V r
        rw [this]
        exact ⟨fun q => absurd q (not_le.2 (tau_lt_one V j)), fun q => absurd q (by simp only; omega)⟩
      · have hk := h ⟨k, by omega⟩
        rw [if_neg h1] at hk
        rw [kW_inner V r k (by omega), hk, Fin.lt_def]
        rfl
  simp only [e]

/-- The reference's output from the bin. -/
theorem ref_out (j n : Fin 128) (h : bin V r j = BitVec.ofNat 32 n.val) : out V r j =
    Half.curve (tau V j) (kW V r ⟨n.val, by omega⟩) (kW V r ⟨1 + n.val, by omega⟩) (kH V r ⟨n.val, by omega⟩)
      (kH V r ⟨1 + n.val, by omega⟩) (sl V r ⟨n.val, by omega⟩) (sl V r ⟨1 + n.val, by omega⟩) := by
  rw [out_eq, t5_eq V r j n.val (by omega) h, t6_eq V r j n.val (by omega) h, t7_eq V r j n.val (by omega) h,
    t8_eq V r j n.val (by omega) h, t9_eq V r j n.val (by omega) h, t10_eq V r j n.val (by omega) h,
    t11_eq V r j n.val (by omega) h, rat_eq, hei_eq, wid_eq, rsl_eq]
  simp only [Half.curve, mul_assoc]

/-- The left end of a bin. -/
theorem left_end (n : Fin 128) : kW V r ⟨n.val, by omega⟩ =
    if n.val = 0 then Ideal.ofBits .f32 0#32 else cW V r ⟨n.val - 1, by omega⟩ := by
  rw [kW_eq, if_neg (by simp only; omega), qW_eq]
  by_cases h : n.val = 0
  · rw [dif_pos (by simp only; omega), if_pos h, z0_eq, Ideal.ofBits_zero_f32]
  · rw [dif_neg (by simp only; omega), if_neg h]

/-- The right end of a bin. -/
theorem right_end (n : Fin 128) : kW V r ⟨1 + n.val, by omega⟩ =
    if n.val = 127 then Ideal.ofBits .f32 0x3F800000#32 else cW V r n := by
  rw [kW_eq, Ideal.ofBits_one_f32]
  by_cases h : n.val = 127
  · rw [if_pos (by simp only; omega), if_pos h]
  · rw [if_neg (by simp only; omega), if_neg h, qW_eq, dif_neg (by simp only; omega)]
    exact congrArg (cW V r) (Fin.ext (by simp only; omega))

/-- The height at the left end of a bin. -/
theorem left_height (n : Fin 128) : kH V r ⟨n.val, by omega⟩ =
    sa V r 0 * (if n.val = 0 then Ideal.ofBits .f32 0#32 else cH V r ⟨n.val - 1, by omega⟩) + sb V r 0 := by
  rw [kH_eq, qH_eq]
  by_cases h : n.val = 0
  · rw [dif_pos (by simp only; omega), if_pos h, z0_eq, Ideal.ofBits_zero_f32]
  · rw [dif_neg (by simp only; omega), if_neg h]

/-- The height at the right end of a bin. -/
theorem right_height (n : Fin 128) : kH V r ⟨1 + n.val, by omega⟩ = sa V r 0 * cH V r n + sb V r 0 := by
  rw [kH_eq, qH_eq, dif_neg (by simp only; omega)]
  have e : cH V r ⟨1 + n.val - 1, by omega⟩ = cH V r n := congrArg (cH V r) (Fin.ext (by simp only; omega))
  exact congrArg (fun x => sa V r 0 * x + sb V r 0) e

/-- The slope at the left end of a bin. -/
theorem left_slope (n : Fin 128) : sl V r ⟨n.val, by omega⟩ =
    if h : n.val = 0 then Ideal.ofBits .f32 0x3F0A2C8F#32 else mid V r ⟨n.val - 1, by omega⟩ := by
  rw [sl_eq]
  by_cases h : n.val = 0
  · rw [dif_pos (by simp only; omega), dif_pos h, edge_eq]
  · rw [dif_neg (by simp only; omega), dif_neg h, dif_pos (by simp only; omega)]

/-- The slope at the right end of a bin. -/
theorem right_slope (n : Fin 128) : sl V r ⟨1 + n.val, by omega⟩ =
    if h : n.val = 127 then Ideal.ofBits .f32 0x3F0A2C8F#32 else mid V r ⟨n.val, by omega⟩ := by
  rw [sl_eq, dif_neg (by simp only; omega)]
  by_cases h : n.val = 127
  · rw [dif_neg (by simp only; omega), dif_pos h, edge_eq]
  · rw [dif_pos (by simp only; omega), dif_neg h]
    exact congrArg (mid V r) (Fin.ext (by simp only; omega))

variable (sp : FVec Ideal Cert.KernelIdeal.S256x640 .f32) (i : Fin 256)

/-- The kernel's slopes at the inner ends are the reference's. -/
theorem slope_same (hp : ∀ k : Fin 383, (sp (ix2 i ⟨k.val, by omega⟩) : EReal) = par V r k) (j : Fin 127) :
    (Half.slope sp (ix2 i ⟨j.val, by omega⟩) : EReal) = mid V r j := by
  have e := hp ⟨256 + j.val, by omega⟩
  rw [← gD_eq] at e
  rw [Half.slope_at sp i ⟨j.val, by omega⟩ _ e, mid_eq, sft_eq]

/-- The kernel's outputs in a row are the reference's. -/
theorem spline_row (hW : ∀ k, ∃ q : ℝ, gW V r k = q) (hH : ∀ k, ∃ q : ℝ, gH V r k = q)
    (hp : ∀ k : Fin 383, (sp (ix2 i ⟨k.val, by omega⟩) : EReal) = par V r k)
    (ha : ∀ k : Fin 128, Ideal.exp (sp (ix2 i ⟨384 + k.val, by omega⟩)) = sa V r 0)
    (hb : ∀ k : Fin 128, (sp (ix2 i ⟨512 + k.val, by omega⟩) : EReal) = sb V r 0) (j : Fin 128) :
    (Half.spline sp (ix2 i j) : EReal) = out V r j := by
  have hcw : ∀ k, (Half.cw sp (ix2 i k) : EReal) = cW V r k := fun k => by
    rw [Half.cw_at, cW_end V r hW]
    refine congrArg (fun g => Soft.kernelEnd g k) (funext fun x => ?_)
    exact (hp ⟨x.val, by omega⟩).trans (gW_eq V r x).symm
  have hch : ∀ k, (Half.ch sp (ix2 i k) : EReal) = cH V r k := fun k => by
    rw [Half.ch_at, cH_end V r hH]
    refine congrArg (fun g => Soft.kernelEnd g k) (funext fun x => ?_)
    exact (hp ⟨128 + x.val, by omega⟩).trans (gH_eq V r x).symm
  obtain ⟨n, hn⟩ := exists_bin V r hW j
  have hk : Half.bin (Half.cw sp) (ix2 i j) = BitVec.ofNat 32 n.val :=
    Half.bin_at _ i j n fun k => by rw [Half.look_at, hcw, tau_same V]; exact hn k
  have h1 : (if n.val = 0 then Ideal.ofBits .f32 0x3F0A2C8F#32 else Half.slope sp (ix2 i ⟨n.val - 1, by omega⟩) : EReal) =
      sl V r ⟨n.val, by omega⟩ := by
    rw [left_slope]
    by_cases h : n.val = 0
    · rw [if_pos h, dif_pos h]
    · rw [if_neg h, dif_neg h]
      exact slope_same V r sp i hp ⟨n.val - 1, by omega⟩
  have h2 : (if n.val = 127 then Ideal.ofBits .f32 0x3F0A2C8F#32 else Half.slope sp (ix2 i n) : EReal) =
      sl V r ⟨1 + n.val, by omega⟩ := by
    rw [right_slope]
    by_cases h : n.val = 127
    · rw [if_pos h, dif_pos h]
    · rw [if_neg h, dif_neg h]
      exact slope_same V r sp i hp ⟨n.val, by omega⟩
  rw [Half.spline_at sp i j n hk, ref_out V r j n (ref_bin V r j n hn), h1, h2, tau_same V,
    Half.scaleA_at, Half.scaleB_at, ha, hb, left_end, right_end, left_height, right_height]
  simp only [hcw, hch]

end Cert.Row
-- ==== Proof.RowHalf.lean ====
module

public import proofs.«01_k».proof.Proof.RowSpline

/-!
# One row of a block is one row of the reference

When the entries a block of the kernel reads are the reference's inputs, laid out and filled up with
zeros as the kernel's set-up does it, each row the block writes is a row of the reference's result.
-/

@[expose] public section
set_option maxRecDepth 16384
noncomputable section

namespace Cert.Row
open Idealize.ShloMosaic Cert.Ref
open scoped BigOperators

/-- A row times a column plus a number, all of them real, is real. -/
theorem real_dot {n : ℕ} (a b : Fin n → EReal) (c : EReal) (ha : ∀ k, ∃ q : ℝ, a k = q) (hb : ∀ k, ∃ q : ℝ, b k = q)
    (hc : ∃ q : ℝ, c = q) : ∃ q : ℝ, ∑ k, a k * b k + c = q := by
  choose p hp using ha
  choose q hq using hb
  obtain ⟨s, rfl⟩ := hc
  refine ⟨∑ k, p k * q k + s, ?_⟩
  simp only [hp, hq, ← EReal.coe_mul]
  rw [Norm.coe_sum, EReal.coe_add]

/-- A sum over 128 terms the last 112 of which are zero. -/
theorem sum_first (f : Fin 128 → EReal) (h : ∀ k : Fin 128, 16 ≤ k.val → f k = 0) :
    ∑ k, f k = ∑ k : Fin 16, f ⟨k.val, by omega⟩ := by
  have e : ∑ k : Fin (16 + 112), f k = ∑ k : Fin 16, f (Fin.castAdd 112 k) + ∑ k : Fin 112, f (Fin.natAdd 16 k) :=
    Fin.sum_univ_add _
  rw [Finset.sum_eq_zero (s := (Finset.univ : Finset (Fin 112))) fun k _ => h (Fin.natAdd 16 k) (by simp), add_zero] at e
  exact e

/-- The reference's inputs that have to be real numbers are, and its normalisations do not rescale. -/
structure Tame (V : Vals) : Prop where
  /-- The inputs are real. -/
  a0 : ∀ i k, ∃ q : ℝ, A0 V i k = q
  /-- The actions are real. -/
  a1 : ∀ i k, ∃ q : ℝ, A1 V i k = q
  /-- The first layer's weights are real. -/
  a2 : ∀ j k, ∃ q : ℝ, A2 V j k = q
  /-- The first layer's shifts are real. -/
  a3 : ∀ j, ∃ q : ℝ, A3 V j = q
  /-- The first normalisation's factors are one. -/
  a4 : ∀ j, A4 V j = 1
  /-- The first normalisation's shifts are zero. -/
  a5 : ∀ j, A5 V j = 0
  /-- The second layer's weights are real. -/
  a6 : ∀ j k, ∃ q : ℝ, A6 V j k = q
  /-- The second layer's shifts are real. -/
  a7 : ∀ j, ∃ q : ℝ, A7 V j = q
  /-- The second normalisation's factors are one. -/
  a8 : ∀ j, A8 V j = 1
  /-- The second normalisation's shifts are zero. -/
  a9 : ∀ j, A9 V j = 0
  /-- The last layer's weights for widths and heights are real. -/
  a10 : ∀ (j : Fin 256) k, ∃ q : ℝ, A10 V ⟨j.val, by omega⟩ k = q
  /-- The last layer's shifts for widths and heights are real. -/
  a11 : ∀ j : Fin 256, ∃ q : ℝ, A11 V ⟨j.val, by omega⟩ = q

variable (V : Vals)

namespace Tame
variable {V} (T : Tame V) (r : Fin 16384)
include T

/-- The first layer is real. -/
theorem h1_real (j : Fin 1024) : ∃ q : ℝ, h1 V r j = q := by
  rw [h1_eq]; exact real_dot _ _ _ (T.a0 r) (T.a2 j) (T.a3 j)

/-- The first layer's normalisation. -/
theorem x1_norm (j : Fin 1024) : x1 V r j = Norm.refNorm (h1 V r) j := by
  rw [x1_eq, T.a4, T.a5]; rfl

/-- The first layer, normalised, is real. -/
theorem x1_real (j : Fin 1024) : ∃ q : ℝ, x1 V r j = q := by
  rw [T.x1_norm]; exact (Norm.norm_eq _ (T.h1_real r) j).2

/-- The second layer is real. -/
theorem h2_real (j : Fin 1024) : ∃ q : ℝ, h2 V r j = q := by
  rw [h2_eq, add_assoc]
  exact real_dot _ _ _ (T.x1_real r) (fun k => T.a6 j _) (real_dot _ _ _ (T.a1 r) (fun k => T.a6 j _) (T.a7 j))

/-- The second layer's normalisation. -/
theorem x2_norm (j : Fin 1024) : x2 V r j = Norm.refNorm (h2 V r) j := by
  rw [x2_eq, T.a8, T.a9]; rfl

/-- The second layer, normalised, is real. -/
theorem x2_real (j : Fin 1024) : ∃ q : ℝ, x2 V r j = q := by
  rw [T.x2_norm]; exact (Norm.norm_eq _ (T.h2_real r) j).2

/-- The numbers the widths come from are real. -/
theorem gW_real (j : Fin 128) : ∃ q : ℝ, gW V r j = q := by
  rw [gW_eq, par_eq]
  exact real_dot _ _ _ (T.x2_real r) (T.a10 ⟨j.val, by omega⟩) (T.a11 ⟨j.val, by omega⟩)

/-- The numbers the heights come from are real. -/
theorem gH_real (j : Fin 128) : ∃ q : ℝ, gH V r j = q := by
  rw [gH_eq, par_eq]
  exact real_dot _ _ _ (T.x2_real r) (T.a10 ⟨128 + j.val, by omega⟩) (T.a11 ⟨128 + j.val, by omega⟩)

end Tame

/-- The weights of the kernel's last layer, from the reference's three. -/
def lastW (k : Fin 1024) (l : Fin 640) : EReal :=
  if h : l.val < 383 then A10 V ⟨l.val, h⟩ k else if l.val < 384 then 0 else if l.val < 512 then A12 V 0 k else A14 V 0 k

/-- The shifts of the kernel's last layer, from the reference's three. -/
def lastB (l : Fin 640) : EReal :=
  if h : l.val < 383 then A11 V ⟨l.val, h⟩ else if l.val < 384 then 0 else if l.val < 512 then A13 V 0 else A15 V 0

/-- A row of a block is a row of the reference's result. -/
theorem half_row (T : Tame V) (r : Fin 16384) (i : Fin 256)
    (x : Vec Ideal Cert.KernelIdeal.S256x256 .bf16) (a : Vec Ideal Cert.KernelIdeal.S256x128 .bf16)
    (w1 : Vec Ideal Cert.KernelIdeal.S256x1024 .bf16) (b1 : Vec Ideal Cert.KernelIdeal.S1x1024 .bf16)
    (w2 : Vec Ideal Cert.KernelIdeal.S1152x1024 .bf16) (b2 : Vec Ideal Cert.KernelIdeal.S1x1024 .bf16)
    (wc : Vec Ideal Cert.KernelIdeal.S1024x640 .bf16) (bc : Vec Ideal Cert.KernelIdeal.S1x640 .f32)
    (hx : ∀ k, (x (ix2 i k) : EReal) = A0 V r k)
    (ha : ∀ k : Fin 128, (a (ix2 i k) : EReal) = if h : k.val < 16 then A1 V r ⟨k.val, h⟩ else 0)
    (hw1 : ∀ k j, (w1 (ix2 k j) : EReal) = A2 V j k)
    (hb1 : ∀ j, (b1 (ix2 0 j) : EReal) = A3 V j)
    (hw2 : ∀ (k : Fin 1152) (j : Fin 1024), (w2 (ix2 k j) : EReal) = if h : k.val < 1040 then A6 V j ⟨k.val, h⟩ else 0)
    (hb2 : ∀ j, (b2 (ix2 0 j) : EReal) = A7 V j)
    (hwc : ∀ k l, (wc (ix2 k l) : EReal) = lastW V k l)
    (hbc : ∀ l, (bc (ix2 0 l) : EReal) = lastB V l) (j : Fin 128) :
    (Half.half x a w1 b1 w2 b2 wc bc (ix2 i j) : EReal) = out V r j := by
  have e1 : ∀ l, (Cert.KernelIdeal.Gen.k0_pay8 x w1 b1 (ix2 i l) : EReal) = h1 V r l := fun l => by
    rw [Half.layer1_at, h1_eq]
    simp only [hx, hw1, hb1]
  have e2 : ∀ l, (Half.normed (Cert.KernelIdeal.Gen.k0_pay8 x w1 b1) (ix2 i l) : EReal) = x1 V r l := fun l => by
    rw [Half.normed_at, T.x1_norm, ← (Norm.norm_eq _ (T.h1_real r) l).1]
    simp only [e1]
  have e3 : ∀ l, (Half.layer2 (Half.normed (Cert.KernelIdeal.Gen.k0_pay8 x w1 b1)) a w2 b2 (ix2 i l) : EReal) = h2 V r l := fun l => by
    rw [Half.layer2_at, h2_eq, sum_first]
    · have p : ∀ k : Fin 1024, (w2 (ix2 ⟨k.val, by omega⟩ l) : EReal) = A6 V l ⟨k.val, by omega⟩ := fun k => by
        rw [hw2, dif_pos]
      have q : ∀ k : Fin 16, (a (ix2 i ⟨k.val, by omega⟩) : EReal) * w2 (ix2 ⟨1024 + k.val, by omega⟩ l) =
          A1 V r k * A6 V l ⟨1024 + k.val, by omega⟩ := fun k => by
        rw [ha, hw2, dif_pos (by simp), dif_pos (by simp only; omega)]
      simp only [e2, p, q, hb2]
    · intro k hk
      rw [ha, dif_neg (by omega), zero_mul]
  have e4 : ∀ l, (Half.trunk x a w1 b1 w2 b2 (ix2 i l) : EReal) = x2 V r l := fun l => by
    rw [Half.trunk, Half.normed_at, T.x2_norm, ← (Norm.norm_eq _ (T.h2_real r) l).1]
    simp only [e3]
  have e5 : ∀ l, (Half.logits (Half.trunk x a w1 b1 w2 b2) wc bc (ix2 i l) : EReal) =
      ∑ k : Fin 1024, x2 V r k * lastW V k l + lastB V l := fun l => by
    rw [Half.logits_at]
    simp only [e4, hwc, hbc]
  refine spline_row V r _ i (T.gW_real r) (T.gH_real r) (fun k => ?_) (fun k => ?_) (fun k => ?_) j
  · rw [e5, par_eq]
    simp only [lastW, lastB, dif_pos k.isLt]
  · have p : ¬ 384 + k.val < 383 := by omega
    have q : ¬ 384 + k.val < 384 := by omega
    have s : 384 + k.val < 512 := by omega
    rw [e5, sa_eq]
    simp only [lastW, lastB, dif_neg p, if_neg q, if_pos s]
  · have p : ¬ 512 + k.val < 383 := by omega
    have q : ¬ 512 + k.val < 384 := by omega
    have s : ¬ 512 + k.val < 512 := by omega
    rw [e5, sb_eq]
    simp only [lastW, lastB, dif_neg p, if_neg q, if_neg s]

end Cert.Row
-- ==== Proof.Value.lean ====
module

public import proofs.«01_k».proof.Proof.Entry
public import proofs.«01_k».proof.Proof.RowHalf

/-!
# What the kernel's result array holds

Each grid point writes 2048 rows in eight pieces of 256.  When the two programs are called with the
same arguments, every piece holds rows of the reference's result, so the whole array is the reference's.
-/

@[expose] public section
set_option maxRecDepth 16384
noncomputable section

namespace Cert.Value
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (U : Cert.Ref.Vals)

/-- The two programs are called with the same arguments (those the result depends on in the claim). -/
structure Same : Prop where
  /-- Argument 0. -/
  k0 : ∀ i j, Entry.K0 m c i j = Cert.Ref.A0 U i j
  /-- Argument 1. -/
  k1 : ∀ i j, Entry.K1 m c i j = Cert.Ref.A1 U i j
  /-- Argument 2. -/
  k2 : ∀ i j, Entry.K2 m c i j = Cert.Ref.A2 U i j
  /-- Argument 3. -/
  k3 : ∀ i, Entry.K3 m c i = Cert.Ref.A3 U i
  /-- Argument 6. -/
  k6 : ∀ i j, Entry.K6 m c i j = Cert.Ref.A6 U i j
  /-- Argument 7. -/
  k7 : ∀ i, Entry.K7 m c i = Cert.Ref.A7 U i
  /-- Argument 10. -/
  k10 : ∀ i j, Entry.K10 m c i j = Cert.Ref.A10 U i j
  /-- Argument 11. -/
  k11 : ∀ i, Entry.K11 m c i = Cert.Ref.A11 U i
  /-- Argument 12. -/
  k12 : ∀ i j, Entry.K12 m c i j = Cert.Ref.A12 U i j
  /-- Argument 13. -/
  k13 : ∀ i, Entry.K13 m c i = Cert.Ref.A13 U i
  /-- Argument 14. -/
  k14 : ∀ i j, Entry.K14 m c i j = Cert.Ref.A14 U i j
  /-- Argument 15. -/
  k15 : ∀ i, Entry.K15 m c i = Cert.Ref.A15 U i

/-- Where each window's block lies at each point. -/
theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0] :=
  (by decide +kernel : ∀ t : Fin grid0.N, _)

/-- The row of the whole array that row `i` of the piece at `off` of point `t` is. -/
theorem row_lt (t : Fin cfg0.N) (off : ℕ) (ho : off ≤ 1792) (i : Fin 256) : 2048 * t.val + off + i.val < 16384 := by
  have := lt_of_lt_of_eq t.isLt N_0
  omega

/-- The rows of the inputs a piece reads. -/
theorem ld_x (t : Fin cfg0.N) (off : ℕ) (ho : off ≤ 1792) (h : ∀ a, (![off, 0] : Fin 2 → ℕ) a + S256x256.size a ≤ S2048x256.size a) (i k : Fin 256) :
    (View.ld (iblk m c 0 t) (Rect.unit (s := S2048x256) ![off, 0] S256x256.size h) (ix2 i k) : EReal) =
      (V m c main_v28 : FVec Ideal S16384x256 .bf16) (ix2 ⟨2048 * t.val + off + i.val, row_lt t off ho i⟩ k) := by
  pointwise
  blk_point [iblk, idx t]

/-- The rows of the actions a piece reads. -/
theorem ld_a (t : Fin cfg0.N) (off : ℕ) (ho : off ≤ 1792) (h : ∀ a, (![off, 0] : Fin 2 → ℕ) a + S256x128.size a ≤ S2048x128.size a) (i : Fin 256) (k : Fin 128) :
    (View.ld (iblk m c 1 t) (Rect.unit (s := S2048x128) ![off, 0] S256x128.size h) (ix2 i k) : EReal) =
      (V m c main_v10 : FVec Ideal S16384x128 .bf16) (ix2 ⟨2048 * t.val + off + i.val, row_lt t off ho i⟩ k) := by
  pointwise
  blk_point [iblk, idx t]

/-- The first layer's weights are read whole. -/
theorem ld_w1 (t : Fin cfg0.N) (i : Fin 256) (k : Fin 1024) : (View.ld (iblk m c 2 t) r0_2 (ix2 i k) : EReal) =
    (V m c main_v1 : FVec Ideal S256x1024 .bf16) (ix2 i k) := by
  pointwise
  blk_point [iblk, idx t]

/-- The first layer's shifts are read whole. -/
theorem ld_b1 (t : Fin cfg0.N) (i : Fin 1) (k : Fin 1024) : (View.ld (iblk m c 3 t) r0_3 (ix2 i k) : EReal) =
    (V m c main_v25 : FVec Ideal S1x1024 .bf16) (ix2 i k) := by
  pointwise
  blk_point [iblk, idx t]

/-- The second layer's weights are read whole. -/
theorem ld_w2 (t : Fin cfg0.N) (i : Fin 1152) (k : Fin 1024) : (View.ld (iblk m c 4 t) r0_4 (ix2 i k) : EReal) =
    (V m c main_v8 : FVec Ideal S1152x1024 .bf16) (ix2 i k) := by
  pointwise
  blk_point [iblk, idx t]

/-- The second layer's shifts are read whole. -/
theorem ld_b2 (t : Fin cfg0.N) (i : Fin 1) (k : Fin 1024) : (View.ld (iblk m c 5 t) r0_3 (ix2 i k) : EReal) =
    (V m c main_v27 : FVec Ideal S1x1024 .bf16) (ix2 i k) := by
  pointwise
  blk_point [iblk, idx t]

/-- The last layer's weights are read whole. -/
theorem ld_wc (t : Fin cfg0.N) (i : Fin 1024) (k : Fin 640) : (View.ld (iblk m c 6 t) r0_5 (ix2 i k) : EReal) =
    (V m c main_v18 : FVec Ideal S1024x640 .bf16) (ix2 i k) := by
  pointwise
  blk_point [iblk, idx t]

/-- The last layer's shifts are read whole. -/
theorem ld_bc (t : Fin cfg0.N) (i : Fin 1) (k : Fin 640) : (View.ld (iblk m c 7 t) r0_6 (ix2 i k) : EReal) =
    (V m c main_v23 : FVec Ideal S1x640 .f32) (ix2 i k) := by
  pointwise
  blk_point [iblk, idx t]

variable {m c U}

/-- A piece of 256 rows holds rows of the reference's result. -/
theorem piece_at (S : Same m c U) (T : Row.Tame U) (t : Fin cfg0.N) (off : ℕ) (ho : off ≤ 1792)
    (hx : ∀ a, (![off, 0] : Fin 2 → ℕ) a + S256x256.size a ≤ S2048x256.size a)
    (ha : ∀ a, (![off, 0] : Fin 2 → ℕ) a + S256x128.size a ≤ S2048x128.size a) (i : Fin 256) (l : Fin 128) :
    (Half.half (View.ld (iblk m c 0 t) (Rect.unit (s := S2048x256) ![off, 0] S256x256.size hx))
      (View.ld (iblk m c 1 t) (Rect.unit (s := S2048x128) ![off, 0] S256x128.size ha))
      (View.ld (iblk m c 2 t) r0_2) (View.ld (iblk m c 3 t) r0_3) (View.ld (iblk m c 4 t) r0_4) (View.ld (iblk m c 5 t) r0_3)
      (View.ld (iblk m c 6 t) r0_5) (View.ld (iblk m c 7 t) r0_6) (ix2 i l) : EReal) =
      Cert.Ref.out U ⟨2048 * t.val + off + i.val, row_lt t off ho i⟩ l := by
  refine Row.half_row U T ⟨2048 * t.val + off + i.val, row_lt t off ho i⟩ i _ _ _ _ _ _ _ _
    (fun k => ?_) (fun k => ?_) (fun k j => ?_) (fun j => ?_) (fun k j => ?_) (fun j => ?_) (fun k j => ?_) (fun j => ?_) l
  · rw [ld_x m c t off ho, Entry.x_at, S.k0]
  · rw [ld_a m c t off ho, Entry.a_at]
    simp only [S.k1]
  · rw [ld_w1, Entry.w1_at, S.k2]
  · rw [ld_b1, Entry.b1_at, S.k3]
  · rw [ld_w2, Entry.w2_at]
    simp only [S.k6]
  · rw [ld_b2, Entry.b2_at, S.k7]
  · rw [ld_wc, Entry.wc_at, Row.lastW]
    simp only [S.k10, S.k12, S.k14]
  · rw [ld_bc, Entry.bc_at, Row.lastB]
    simp only [S.k11, S.k13, S.k15]

/-- The same at an index of the piece and an index of the array that lie at the same place. -/
theorem piece (S : Same m c U) (T : Row.Tame U) (t : Fin cfg0.N) (off : ℕ) (ho : off ≤ 1792)
    (hx : ∀ a, (![off, 0] : Fin 2 → ℕ) a + S256x256.size a ≤ S2048x256.size a)
    (ha : ∀ a, (![off, 0] : Fin 2 → ℕ) a + S256x128.size a ≤ S2048x128.size a)
    (x : S256x128.Idx) (j : S16384x128.Idx) (hj0 : (j 0 : ℕ) = 2048 * t.val + (off + (x 0 : ℕ))) (hj1 : (j 1 : ℕ) = x 1) :
    (Half.half (View.ld (iblk m c 0 t) (Rect.unit (s := S2048x256) ![off, 0] S256x256.size hx))
      (View.ld (iblk m c 1 t) (Rect.unit (s := S2048x128) ![off, 0] S256x128.size ha))
      (View.ld (iblk m c 2 t) r0_2) (View.ld (iblk m c 3 t) r0_3) (View.ld (iblk m c 4 t) r0_4) (View.ld (iblk m c 5 t) r0_3)
      (View.ld (iblk m c 6 t) r0_5) (View.ld (iblk m c 7 t) r0_6) x : EReal) =
      (Cert.Ref.fin U (Proc.devRef .tc Cert.ReferenceIdeal.main_v175) : FVec Ideal S16384x128 .f32) j := by
  have ex : x = ix2 (x 0) (x 1) := by
    funext a
    match a with
    | ⟨0, _⟩ => rfl
    | ⟨1, _⟩ => rfl
  have ej : j = ix2 ⟨2048 * t.val + off + (x 0 : ℕ), row_lt t off ho (x 0)⟩ (x 1) := by
    funext a
    match a with
    | ⟨0, _⟩ => exact Fin.ext (by rw [← Nat.add_assoc] at hj0; exact hj0)
    | ⟨1, _⟩ => exact Fin.ext hj1
  exact (congrArg (Half.half _ _ _ _ _ _ _ _) ex).trans ((piece_at S T t off ho hx ha (x 0) (x 1)).trans
    (congrArg (Cert.Ref.fin U (Proc.devRef .tc Cert.ReferenceIdeal.main_v175) : FVec Ideal S16384x128 .f32) ej).symm)

/-- What a point writes is the reference's rows. -/
theorem point (S : Same m c U) (T : Row.Tame U) (t : Fin cfg0.N) (y : S2048x128.Idx) (j : S16384x128.Idx)
    (hj0 : (j 0 : ℕ) = 2048 * t.val + (y 0 : ℕ)) (hj1 : (j 1 : ℕ) = y 1) :
    (out0_8 (iblk m c 0 t) (iblk m c 1 t) (iblk m c 2 t) (iblk m c 3 t) (iblk m c 4 t) (iblk m c 5 t) (iblk m c 6 t) (iblk m c 7 t) y : EReal) =
      (Cert.Ref.fin U (Proc.devRef .tc Cert.ReferenceIdeal.main_v175) : FVec Ideal S16384x128 .f32) j := by
  canon_tiles x h
  case piece0 => exact piece S T t 1792 (by decide) _ _ x j (by rw [hj0]; exact congrArg (2048 * t.val + ·) (h0 : (y 0 : ℕ) = 1792 + (x 0 : ℕ))) (hj1.trans h1)
  case piece1 => exact piece S T t 1536 (by decide) _ _ x j (by rw [hj0]; exact congrArg (2048 * t.val + ·) (h0 : (y 0 : ℕ) = 1536 + (x 0 : ℕ))) (hj1.trans h1)
  case piece2 => exact piece S T t 1280 (by decide) _ _ x j (by rw [hj0]; exact congrArg (2048 * t.val + ·) (h0 : (y 0 : ℕ) = 1280 + (x 0 : ℕ))) (hj1.trans h1)
  case piece3 => exact piece S T t 1024 (by decide) _ _ x j (by rw [hj0]; exact congrArg (2048 * t.val + ·) (h0 : (y 0 : ℕ) = 1024 + (x 0 : ℕ))) (hj1.trans h1)
  case piece4 => exact piece S T t 768 (by decide) _ _ x j (by rw [hj0]; exact congrArg (2048 * t.val + ·) (h0 : (y 0 : ℕ) = 768 + (x 0 : ℕ))) (hj1.trans h1)
  case piece5 => exact piece S T t 512 (by decide) _ _ x j (by rw [hj0]; exact congrArg (2048 * t.val + ·) (h0 : (y 0 : ℕ) = 512 + (x 0 : ℕ))) (hj1.trans h1)
  case piece6 => exact piece S T t 256 (by decide) _ _ x j (by rw [hj0]; exact congrArg (2048 * t.val + ·) (h0 : (y 0 : ℕ) = 256 + (x 0 : ℕ))) (hj1.trans h1)
  case piece7 => exact piece S T t 0 (by decide) _ _ x j (by omega) (hj1.trans h1)

/-- The kernel's result array is the reference's. -/
theorem final (S : Same m c U) (T : Row.Tame U) : (dats m 0 c).arrAt 8 (cfgs 0).N =
    (Cert.Ref.fin U (Proc.devRef .tc Cert.ReferenceIdeal.main_v175) : FVec Ideal S16384x128 .f32) := by
  refine (dats m 0 c).arrAt_eq_of_covers 8 _ (by decide +kernel) fun t _ y => ?_
  blk_simp
  rw [after0_8]
  refine point S T t y _ ?_ ?_
  all_goals (blk_simp [idx t] <;> try omega)

end Cert.Value
-- ==== Proof.Agree.lean ====
module

public import proofs.«01_k».proof.Proof.Value

/-!
# The two programs' arguments

The reference's arguments are the kernel's, and the precondition says of them what the equation needs.
-/

@[expose] public section
set_option maxRecDepth 16384
noncomputable section

namespace Cert.Agree
open Cert.KernelIdeal Cert.KernelIdeal.Gen Idealize.ShloMosaic Idealize.ShloMosaic.TcCoe Idealize.SL.Sem

/-- An entry for which the comparison with an equal one says yes is that one. -/
theorem eq_of_oeq {s : Shape} (a b : FVec Ideal s .f32) (k : s.Idx) (h : cmpf .oeq a b k = 1#1) : (a k : EReal) = b k := by
  by_contra hn
  have e : cmpf .oeq a b k = BitVec.ofBool (decide ((a k : EReal) = b k)) := rfl
  rw [e, decide_eq_false hn] at h
  exact absurd h (by decide)

/-- An entry whose absolute value is found to be below infinity is real. -/
theorem real_of_olt {s : Shape} (a b : FVec Ideal s .f32) (k : s.Idx) (hb : (b k : EReal) = ⊤)
    (h : cmpf .olt (Host.absf a) b k = 1#1) : ∃ q : ℝ, (a k : EReal) = q := by
  have e : cmpf .olt (Host.absf a) b k = BitVec.ofBool (decide (max (a k : EReal) (-(a k : EReal)) < (b k : EReal))) := rfl
  have lt : max (a k : EReal) (-(a k : EReal)) < ⊤ := by
    rw [← hb]
    by_contra hn
    rw [e, decide_eq_false hn] at h
    exact absurd h (by decide)
  have h1 : (a k : EReal) ≠ ⊤ := fun q => by rw [q] at lt; exact absurd lt (by simp)
  have h2 : (a k : EReal) ≠ ⊥ := fun q => by rw [q] at lt; exact absurd lt (by simp)
  exact ⟨_, (EReal.coe_toReal h1 h2).symm⟩

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The reference's launch contents. -/
abbrev U : Cert.Ref.Vals := StableHlo.launchContents m' c

/-- Argument 0. -/
theorem arg0 (h : m' ((c.tc : Thread Cert.ReferenceIdeal.nD Cert.ReferenceIdeal.τ).loc Cert.ReferenceIdeal.main_arg0) = m ((c.tc : Thread nD τ).loc main_arg0)) : ∀ i j, Entry.K0 m c i j = Cert.Ref.A0 (U m' c) i j := by
  intro i j
  unfold Cert.Ref.A0 Entry.K0
  rw [Cert.Ref.fin_arg _ _ (by decide)]
  exact (congrArg (fun x : FVec Ideal S16384x256 .f32 => x (ix2 i j)) h).symm

/-- Argument 1. -/
theorem arg1 (h : m' ((c.tc : Thread Cert.ReferenceIdeal.nD Cert.ReferenceIdeal.τ).loc Cert.ReferenceIdeal.main_arg1) = m ((c.tc : Thread nD τ).loc main_arg1)) : ∀ i j, Entry.K1 m c i j = Cert.Ref.A1 (U m' c) i j := by
  intro i j
  unfold Cert.Ref.A1 Entry.K1
  rw [Cert.Ref.fin_arg _ _ (by decide)]
  exact (congrArg (fun x : FVec Ideal S16384x16 .f32 => x (ix2 i j)) h).symm

/-- Argument 2. -/
theorem arg2 (h : m' ((c.tc : Thread Cert.ReferenceIdeal.nD Cert.ReferenceIdeal.τ).loc Cert.ReferenceIdeal.main_arg2) = m ((c.tc : Thread nD τ).loc main_arg2)) : ∀ i j, Entry.K2 m c i j = Cert.Ref.A2 (U m' c) i j := by
  intro i j
  unfold Cert.Ref.A2 Entry.K2
  rw [Cert.Ref.fin_arg _ _ (by decide)]
  exact (congrArg (fun x : FVec Ideal S1024x256 .f32 => x (ix2 i j)) h).symm

/-- Argument 3. -/
theorem arg3 (h : m' ((c.tc : Thread Cert.ReferenceIdeal.nD Cert.ReferenceIdeal.τ).loc Cert.ReferenceIdeal.main_arg3) = m ((c.tc : Thread nD τ).loc main_arg3)) : ∀ i, Entry.K3 m c i = Cert.Ref.A3 (U m' c) i := by
  intro i
  unfold Cert.Ref.A3 Entry.K3
  rw [Cert.Ref.fin_arg _ _ (by decide)]
  exact (congrArg (fun x : FVec Ideal S1024 .f32 => x (ix1 i)) h).symm

/-- Argument 4. -/
theorem arg4 (h : m' ((c.tc : Thread Cert.ReferenceIdeal.nD Cert.ReferenceIdeal.τ).loc Cert.ReferenceIdeal.main_arg4) = m ((c.tc : Thread nD τ).loc main_arg4)) : ∀ i, Entry.K4 m c i = Cert.Ref.A4 (U m' c) i := by
  intro i
  unfold Cert.Ref.A4 Entry.K4
  rw [Cert.Ref.fin_arg _ _ (by decide)]
  exact (congrArg (fun x : FVec Ideal S1024 .f32 => x (ix1 i)) h).symm

/-- Argument 5. -/
theorem arg5 (h : m' ((c.tc : Thread Cert.ReferenceIdeal.nD Cert.ReferenceIdeal.τ).loc Cert.ReferenceIdeal.main_arg5) = m ((c.tc : Thread nD τ).loc main_arg5)) : ∀ i, Entry.K5 m c i = Cert.Ref.A5 (U m' c) i := by
  intro i
  unfold Cert.Ref.A5 Entry.K5
  rw [Cert.Ref.fin_arg _ _ (by decide)]
  exact (congrArg (fun x : FVec Ideal S1024 .f32 => x (ix1 i)) h).symm

/-- Argument 6. -/
theorem arg6 (h : m' ((c.tc : Thread Cert.ReferenceIdeal.nD Cert.ReferenceIdeal.τ).loc Cert.ReferenceIdeal.main_arg6) = m ((c.tc : Thread nD τ).loc main_arg6)) : ∀ i j, Entry.K6 m c i j = Cert.Ref.A6 (U m' c) i j := by
  intro i j
  unfold Cert.Ref.A6 Entry.K6
  rw [Cert.Ref.fin_arg _ _ (by decide)]
  exact (congrArg (fun x : FVec Ideal S1024x1040 .f32 => x (ix2 i j)) h).symm

/-- Argument 7. -/
theorem arg7 (h : m' ((c.tc : Thread Cert.ReferenceIdeal.nD Cert.ReferenceIdeal.τ).loc Cert.ReferenceIdeal.main_arg7) = m ((c.tc : Thread nD τ).loc main_arg7)) : ∀ i, Entry.K7 m c i = Cert.Ref.A7 (U m' c) i := by
  intro i
  unfold Cert.Ref.A7 Entry.K7
  rw [Cert.Ref.fin_arg _ _ (by decide)]
  exact (congrArg (fun x : FVec Ideal S1024 .f32 => x (ix1 i)) h).symm

/-- Argument 8. -/
theorem arg8 (h : m' ((c.tc : Thread Cert.ReferenceIdeal.nD Cert.ReferenceIdeal.τ).loc Cert.ReferenceIdeal.main_arg8) = m ((c.tc : Thread nD τ).loc main_arg8)) : ∀ i, Entry.K8 m c i = Cert.Ref.A8 (U m' c) i := by
  intro i
  unfold Cert.Ref.A8 Entry.K8
  rw [Cert.Ref.fin_arg _ _ (by decide)]
  exact (congrArg (fun x : FVec Ideal S1024 .f32 => x (ix1 i)) h).symm

/-- Argument 9. -/
theorem arg9 (h : m' ((c.tc : Thread Cert.ReferenceIdeal.nD Cert.ReferenceIdeal.τ).loc Cert.ReferenceIdeal.main_arg9) = m ((c.tc : Thread nD τ).loc main_arg9)) : ∀ i, Entry.K9 m c i = Cert.Ref.A9 (U m' c) i := by
  intro i
  unfold Cert.Ref.A9 Entry.K9
  rw [Cert.Ref.fin_arg _ _ (by decide)]
  exact (congrArg (fun x : FVec Ideal S1024 .f32 => x (ix1 i)) h).symm

/-- Argument 10. -/
theorem arg10 (h : m' ((c.tc : Thread Cert.ReferenceIdeal.nD Cert.ReferenceIdeal.τ).loc Cert.ReferenceIdeal.main_arg10) = m ((c.tc : Thread nD τ).loc main_arg10)) : ∀ i j, Entry.K10 m c i j = Cert.Ref.A10 (U m' c) i j := by
  intro i j
  unfold Cert.Ref.A10 Entry.K10
  rw [Cert.Ref.fin_arg _ _ (by decide)]
  exact (congrArg (fun x : FVec Ideal S383x1024 .f32 => x (ix2 i j)) h).symm

/-- Argument 11. -/
theorem arg11 (h : m' ((c.tc : Thread Cert.ReferenceIdeal.nD Cert.ReferenceIdeal.τ).loc Cert.ReferenceIdeal.main_arg11) = m ((c.tc : Thread nD τ).loc main_arg11)) : ∀ i, Entry.K11 m c i = Cert.Ref.A11 (U m' c) i := by
  intro i
  unfold Cert.Ref.A11 Entry.K11
  rw [Cert.Ref.fin_arg _ _ (by decide)]
  exact (congrArg (fun x : FVec Ideal S383 .f32 => x (ix1 i)) h).symm

/-- Argument 12. -/
theorem arg12 (h : m' ((c.tc : Thread Cert.ReferenceIdeal.nD Cert.ReferenceIdeal.τ).loc Cert.ReferenceIdeal.main_arg12) = m ((c.tc : Thread nD τ).loc main_arg12)) : ∀ i j, Entry.K12 m c i j = Cert.Ref.A12 (U m' c) i j := by
  intro i j
  unfold Cert.Ref.A12 Entry.K12
  rw [Cert.Ref.fin_arg _ _ (by decide)]
  exact (congrArg (fun x : FVec Ideal S1x1024 .f32 => x (ix2 i j)) h).symm

/-- Argument 13. -/
theorem arg13 (h : m' ((c.tc : Thread Cert.ReferenceIdeal.nD Cert.ReferenceIdeal.τ).loc Cert.ReferenceIdeal.main_arg13) = m ((c.tc : Thread nD τ).loc main_arg13)) : ∀ i, Entry.K13 m c i = Cert.Ref.A13 (U m' c) i := by
  intro i
  unfold Cert.Ref.A13 Entry.K13
  rw [Cert.Ref.fin_arg _ _ (by decide)]
  exact (congrArg (fun x : FVec Ideal S1 .f32 => x (ix1 i)) h).symm

/-- Argument 14. -/
theorem arg14 (h : m' ((c.tc : Thread Cert.ReferenceIdeal.nD Cert.ReferenceIdeal.τ).loc Cert.ReferenceIdeal.main_arg14) = m ((c.tc : Thread nD τ).loc main_arg14)) : ∀ i j, Entry.K14 m c i j = Cert.Ref.A14 (U m' c) i j := by
  intro i j
  unfold Cert.Ref.A14 Entry.K14
  rw [Cert.Ref.fin_arg _ _ (by decide)]
  exact (congrArg (fun x : FVec Ideal S1x1024 .f32 => x (ix2 i j)) h).symm

/-- Argument 15. -/
theorem arg15 (h : m' ((c.tc : Thread Cert.ReferenceIdeal.nD Cert.ReferenceIdeal.τ).loc Cert.ReferenceIdeal.main_arg15) = m ((c.tc : Thread nD τ).loc main_arg15)) : ∀ i, Entry.K15 m c i = Cert.Ref.A15 (U m' c) i := by
  intro i
  unfold Cert.Ref.A15 Entry.K15
  rw [Cert.Ref.fin_arg _ _ (by decide)]
  exact (congrArg (fun x : FVec Ideal S1 .f32 => x (ix1 i)) h).symm

/-- The shape facts the precondition's text needs. -/
theorem preFacts : Cert.Pre_tame.Facts :=
  ⟨by decide, by decide, by decide, by decide, by decide, by decide, by decide, by decide, by decide⟩

variable {m m' c}

section
variable (hp : Cert.Pre_KernelIdeal_tame (hPre_tame := preFacts) m)
include hp

/-- Argument 4 is one everywhere. -/
theorem g1 (i : Fin 1024) : Entry.K4 m c i = 1 :=
  (eq_of_oeq (m ((c.tc : Thread nD τ).loc main_arg4) : FVec Ideal S1024 .f32) _ (ix1 i) (congrFun (hp c).1 (ix1 i))).trans (by pointwise)

/-- Argument 5 is zero everywhere. -/
theorem s1 (i : Fin 1024) : Entry.K5 m c i = 0 :=
  (eq_of_oeq (m ((c.tc : Thread nD τ).loc main_arg5) : FVec Ideal S1024 .f32) _ (ix1 i) (congrFun (hp c).2.1 (ix1 i))).trans (by pointwise)

/-- Argument 8 is one everywhere. -/
theorem g2 (i : Fin 1024) : Entry.K8 m c i = 1 :=
  (eq_of_oeq (m ((c.tc : Thread nD τ).loc main_arg8) : FVec Ideal S1024 .f32) _ (ix1 i) (congrFun (hp c).2.2.1 (ix1 i))).trans (by pointwise)

/-- Argument 9 is zero everywhere. -/
theorem s2 (i : Fin 1024) : Entry.K9 m c i = 0 :=
  (eq_of_oeq (m ((c.tc : Thread nD τ).loc main_arg9) : FVec Ideal S1024 .f32) _ (ix1 i) (congrFun (hp c).2.2.2.1 (ix1 i))).trans (by pointwise)

/-- Argument 0 is real. -/
theorem real0 (i : Fin 16384) (j : Fin 256) : ∃ q : ℝ, Entry.K0 m c i j = q :=
  real_of_olt (m ((c.tc : Thread nD τ).loc main_arg0) : FVec Ideal S16384x256 .f32) _ (ix2 i j) (by pointwise; exact Consts.wTop) (congrFun (hp c).2.2.2.2.1 (ix2 i j))

/-- Argument 1 is real. -/
theorem real1 (i : Fin 16384) (j : Fin 16) : ∃ q : ℝ, Entry.K1 m c i j = q :=
  real_of_olt (m ((c.tc : Thread nD τ).loc main_arg1) : FVec Ideal S16384x16 .f32) _ (ix2 i j) (by pointwise; exact Consts.wTop) (congrFun (hp c).2.2.2.2.2.1 (ix2 i j))

/-- Argument 2 is real. -/
theorem real2 (i : Fin 1024) (j : Fin 256) : ∃ q : ℝ, Entry.K2 m c i j = q :=
  real_of_olt (m ((c.tc : Thread nD τ).loc main_arg2) : FVec Ideal S1024x256 .f32) _ (ix2 i j) (by pointwise; exact Consts.wTop) (congrFun (hp c).2.2.2.2.2.2.1 (ix2 i j))

/-- Argument 3 is real. -/
theorem real3 (i : Fin 1024) : ∃ q : ℝ, Entry.K3 m c i = q :=
  real_of_olt (m ((c.tc : Thread nD τ).loc main_arg3) : FVec Ideal S1024 .f32) _ (ix1 i) (by pointwise; exact Consts.wTop) (congrFun (hp c).2.2.2.2.2.2.2.1 (ix1 i))

/-- Argument 6 is real. -/
theorem real6 (i : Fin 1024) (j : Fin 1040) : ∃ q : ℝ, Entry.K6 m c i j = q :=
  real_of_olt (m ((c.tc : Thread nD τ).loc main_arg6) : FVec Ideal S1024x1040 .f32) _ (ix2 i j) (by pointwise; exact Consts.wTop) (congrFun (hp c).2.2.2.2.2.2.2.2.1 (ix2 i j))

/-- Argument 7 is real. -/
theorem real7 (i : Fin 1024) : ∃ q : ℝ, Entry.K7 m c i = q :=
  real_of_olt (m ((c.tc : Thread nD τ).loc main_arg7) : FVec Ideal S1024 .f32) _ (ix1 i) (by pointwise; exact Consts.wTop) (congrFun (hp c).2.2.2.2.2.2.2.2.2.1 (ix1 i))

/-- The first 256 rows of argument 10 are real. -/
theorem real10 (i : Fin 256) (j : Fin 1024) : ∃ q : ℝ, Entry.K10 m c ⟨i.val, by omega⟩ j = q := by
  obtain ⟨q, hq⟩ := real_of_olt (extractStridedSlice (α := EReal) (s := Cert.Pre_tame.S383x1024) Cert.Pre_tame.S256x1024 ![0, 0] (m ((c.tc : Thread nD τ).loc main_arg10) : FVec Ideal S383x1024 .f32) preFacts.slices_S383x1024_S256x1024_0_0)
    (broadcastInDim Cert.Pre_tame.S256x1024 ![] preFacts.bcast_S_S256x1024 (constant (F := Ideal) Cert.Pre_tame.S_ .f32 0x7F800000#32)) (ix2 i j) (by pointwise; exact Consts.wTop) (congrFun (hp c).2.2.2.2.2.2.2.2.2.2.1 (ix2 i j))
  refine ⟨q, Eq.trans ?_ hq⟩
  unfold Entry.K10
  pointwise

/-- The first 256 entries of argument 11 are real. -/
theorem real11 (i : Fin 256) : ∃ q : ℝ, Entry.K11 m c ⟨i.val, by omega⟩ = q := by
  obtain ⟨q, hq⟩ := real_of_olt (extractStridedSlice (α := EReal) (s := Cert.Pre_tame.S383) Cert.Pre_tame.S256 ![0] (m ((c.tc : Thread nD τ).loc main_arg11) : FVec Ideal S383 .f32) preFacts.slices_S383_S256_0)
    (broadcastInDim Cert.Pre_tame.S256 ![] preFacts.bcast_S_S256 (constant (F := Ideal) Cert.Pre_tame.S_ .f32 0x7F800000#32)) (ix1 i) (by pointwise; exact Consts.wTop) (congrFun (hp c).2.2.2.2.2.2.2.2.2.2.2 (ix1 i))
  refine ⟨q, Eq.trans ?_ hq⟩
  unfold Entry.K11
  pointwise

end

/-- The two programs' arguments on device `c` are the same. -/
def Args (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
    m' ((c.tc : Thread Cert.ReferenceIdeal.nD Cert.ReferenceIdeal.τ).loc Cert.ReferenceIdeal.main_arg0) = m ((c.tc : Thread nD τ).loc main_arg0) ∧
    m' ((c.tc : Thread Cert.ReferenceIdeal.nD Cert.ReferenceIdeal.τ).loc Cert.ReferenceIdeal.main_arg1) = m ((c.tc : Thread nD τ).loc main_arg1) ∧
    m' ((c.tc : Thread Cert.ReferenceIdeal.nD Cert.ReferenceIdeal.τ).loc Cert.ReferenceIdeal.main_arg2) = m ((c.tc : Thread nD τ).loc main_arg2) ∧
    m' ((c.tc : Thread Cert.ReferenceIdeal.nD Cert.ReferenceIdeal.τ).loc Cert.ReferenceIdeal.main_arg3) = m ((c.tc : Thread nD τ).loc main_arg3) ∧
    m' ((c.tc : Thread Cert.ReferenceIdeal.nD Cert.ReferenceIdeal.τ).loc Cert.ReferenceIdeal.main_arg4) = m ((c.tc : Thread nD τ).loc main_arg4) ∧
    m' ((c.tc : Thread Cert.ReferenceIdeal.nD Cert.ReferenceIdeal.τ).loc Cert.ReferenceIdeal.main_arg5) = m ((c.tc : Thread nD τ).loc main_arg5) ∧
    m' ((c.tc : Thread Cert.ReferenceIdeal.nD Cert.ReferenceIdeal.τ).loc Cert.ReferenceIdeal.main_arg6) = m ((c.tc : Thread nD τ).loc main_arg6) ∧
    m' ((c.tc : Thread Cert.ReferenceIdeal.nD Cert.ReferenceIdeal.τ).loc Cert.ReferenceIdeal.main_arg7) = m ((c.tc : Thread nD τ).loc main_arg7) ∧
    m' ((c.tc : Thread Cert.ReferenceIdeal.nD Cert.ReferenceIdeal.τ).loc Cert.ReferenceIdeal.main_arg8) = m ((c.tc : Thread nD τ).loc main_arg8) ∧
    m' ((c.tc : Thread Cert.ReferenceIdeal.nD Cert.ReferenceIdeal.τ).loc Cert.ReferenceIdeal.main_arg9) = m ((c.tc : Thread nD τ).loc main_arg9) ∧
    m' ((c.tc : Thread Cert.ReferenceIdeal.nD Cert.ReferenceIdeal.τ).loc Cert.ReferenceIdeal.main_arg10) = m ((c.tc : Thread nD τ).loc main_arg10) ∧
    m' ((c.tc : Thread Cert.ReferenceIdeal.nD Cert.ReferenceIdeal.τ).loc Cert.ReferenceIdeal.main_arg11) = m ((c.tc : Thread nD τ).loc main_arg11) ∧
    m' ((c.tc : Thread Cert.ReferenceIdeal.nD Cert.ReferenceIdeal.τ).loc Cert.ReferenceIdeal.main_arg12) = m ((c.tc : Thread nD τ).loc main_arg12) ∧
    m' ((c.tc : Thread Cert.ReferenceIdeal.nD Cert.ReferenceIdeal.τ).loc Cert.ReferenceIdeal.main_arg13) = m ((c.tc : Thread nD τ).loc main_arg13) ∧
    m' ((c.tc : Thread Cert.ReferenceIdeal.nD Cert.ReferenceIdeal.τ).loc Cert.ReferenceIdeal.main_arg14) = m ((c.tc : Thread nD τ).loc main_arg14) ∧
    m' ((c.tc : Thread Cert.ReferenceIdeal.nD Cert.ReferenceIdeal.τ).loc Cert.ReferenceIdeal.main_arg15) = m ((c.tc : Thread nD τ).loc main_arg15)

/-- The arguments the result depends on, entry by entry. -/
theorem same (h : Args m m' c) : Value.Same m c (U m' c) := by
  obtain ⟨h0, h1, h2, h3, h4, h5, h6, h7, h8, h9, h10, h11, h12, h13, h14, h15⟩ := h
  exact ⟨arg0 m m' c h0, arg1 m m' c h1, arg2 m m' c h2, arg3 m m' c h3, arg6 m m' c h6, arg7 m m' c h7, arg10 m m' c h10, arg11 m m' c h11, arg12 m m' c h12, arg13 m m' c h13, arg14 m m' c h14, arg15 m m' c h15⟩

/-- The precondition gives what the equation needs. -/
theorem tame (hp : Cert.Pre_KernelIdeal_tame (hPre_tame := preFacts) m) (h : Args m m' c) : Row.Tame (U m' c) := by
  obtain ⟨h0, h1, h2, h3, h4, h5, h6, h7, h8, h9, h10, h11, h12, h13, h14, h15⟩ := h
  refine ⟨fun i k => ?_, fun i k => ?_, fun j k => ?_, fun j => ?_, fun j => ?_, fun j => ?_, fun j k => ?_, fun j => ?_, fun j => ?_,
    fun j => ?_, fun j k => ?_, fun j => ?_⟩
  · rw [← arg0 m m' c h0]; exact real0 hp i k
  · rw [← arg1 m m' c h1]; exact real1 hp i k
  · rw [← arg2 m m' c h2]; exact real2 hp j k
  · rw [← arg3 m m' c h3]; exact real3 hp j
  · rw [← arg4 m m' c h4]; exact g1 hp j
  · rw [← arg5 m m' c h5]; exact s1 hp j
  · rw [← arg6 m m' c h6]; exact real6 hp j k
  · rw [← arg7 m m' c h7]; exact real7 hp j
  · rw [← arg8 m m' c h8]; exact g2 hp j
  · rw [← arg9 m m' c h9]; exact s2 hp j
  · rw [← arg10 m m' c h10]; exact real10 hp j k
  · rw [← arg11 m m' c h11]; exact real11 hp j

end Cert.Agree
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Value
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem

/-- The reference runs on every input, leaving its arguments and its counters alone. -/
theorem frame_reference : Cert.quiescent_ReferenceIdeal (hReferenceIdeal := Cert.ReferenceIdeal.Gen.facts) := by
  intro m g _
  refine θ_run_mono (Cert.Ref.run m g) fun r h => ⟨fun c => ?_, sem_eq_zero_of_no_sems (by decide) r.2⟩
  refine ⟨?_, ?_, ?_, ?_, ?_, ?_, ?_, ?_, ?_, ?_, ?_, ?_, ?_, ?_, ?_, ?_⟩ <;>
    exact (h c _).trans (Cert.Ref.fin_arg _ _ (by decide))

/-- The same on the inputs the precondition admits. -/
theorem frame_reference_tame : Cert.quiescent_ReferenceIdeal_pre_tame (hReferenceIdeal := Cert.ReferenceIdeal.Gen.facts)
    (hPre_tame := Agree.preFacts) :=
  fun m g _ => frame_reference m g trivial

/-- The kernel's run leaves in its result array what the grid's last step leaves in its output window's array. -/
theorem result (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v29) =
          (Cert.KernelIdeal.Gen.dats m 0 c).arrAt 8 (Cert.KernelIdeal.cfgs 0).N) := by
  run_from Cert.KernelIdeal.Gen.run_main m g

/-- On every tame input the kernel's result array ends equal to the reference's, entry for entry, over
the extended reals. -/
theorem algebraic : Cert.algebraic_KernelIdeal_ReferenceIdeal_pre_tame (hKernelIdeal := Cert.KernelIdeal.Gen.facts)
    (hReferenceIdeal := Cert.ReferenceIdeal.Gen.facts) (hPre_tame := Agree.preFacts) := by
  intro m g m' g' hpre hagree
  refine ⟨fun c => (Cert.KernelIdeal.Gen.dats m 0 c).arrAt 8 (Cert.KernelIdeal.cfgs 0).N,
    θ_run_mono (θ_run_and (result m g) (Cert.KernelIdeal.Gen.unchanged m g)) fun r h c => ⟨h.1 c, h.2 c⟩, ?_⟩
  · refine θ_run_mono (Cert.Ref.run m' g') fun r h c => ⟨(h c _).trans ?_, ?_, ?_, ?_, ?_, ?_, ?_, ?_, ?_, ?_, ?_, ?_, ?_, ?_, ?_, ?_, ?_⟩
    · exact (Value.final (Agree.same (hagree c)) (Agree.tame hpre (hagree c))).symm
    all_goals exact (h c _).trans (Cert.Ref.fin_arg _ _ (by decide))

theorem claim : Cert.Claim :=
  ⟨Cert.Kernel.Gen.facts, Cert.KernelIdeal.Gen.facts, Cert.ReferenceIdeal.Gen.facts, Agree.preFacts,
    fun m g _ => Cert.Kernel.Gen.frame m g, fun m g _ => Cert.KernelIdeal.Gen.frame m g,
    fun m g _ => Cert.KernelIdeal.Gen.frame m g, frame_reference, frame_reference_tame, trivial, algebraic⟩

end Cert.Proof

end
